-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_h0_below_inf [hPre_h0_below_inf : Cert.Pre_h0_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_h0_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_h0_below_inf [hPre_h0_below_inf : Cert.Pre_h0_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_h0_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_h0_below_inf [hKernelIdeal : Cert.KernelIdeal.Facts] [hPre_h0_below_inf : Cert.Pre_h0_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_h0_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_h0_below_inf [hReferenceIdeal : Cert.ReferenceIdeal.Facts] [hPre_h0_below_inf : Cert.Pre_h0_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_h0_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_h0_below_inf [hKernelIdeal : Cert.KernelIdeal.Facts] [hReferenceIdeal : Cert.ReferenceIdeal.Facts] [hPre_h0_below_inf : Cert.Pre_h0_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_h0_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10_18) = v0 c
          ∧ r.2.mem ((c.tc : Thread Cert.ReferenceIdeal.nD Cert.ReferenceIdeal.τ).loc Cert.ReferenceIdeal.main_v10_19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_h0_below_inf : Cert.Pre_h0_below_inf.Facts),
    quiescent_Kernel (hKernel := hKernel)
    ∧ quiescent_KernelIdeal (hKernelIdeal := hKernelIdeal)
    ∧ quiescent_KernelIdeal_pre_h0_below_inf (hKernelIdeal := hKernelIdeal) (hPre_h0_below_inf := hPre_h0_below_inf)
    ∧ quiescent_ReferenceIdeal (hReferenceIdeal := hReferenceIdeal)
    ∧ quiescent_ReferenceIdeal_pre_h0_below_inf (hReferenceIdeal := hReferenceIdeal) (hPre_h0_below_inf := hPre_h0_below_inf)
    ∧ preserves_Kernel_KernelIdeal
    ∧ algebraic_KernelIdeal_ReferenceIdeal_pre_h0_below_inf (hKernelIdeal := hKernelIdeal) (hReferenceIdeal := hReferenceIdeal) (hPre_h0_below_inf := hPre_h0_below_inf)
-- ==== Pre_h0_below_inf.lean ====
abbrev S512x8x2 : Shape := ⟨3, ![512, 8, 2]⟩
abbrev S512x8 : Shape := ⟨2, ![512, 8]⟩
abbrev S512x1 : Shape := ⟨2, ![512, 1]⟩
abbrev S64x2 : Shape := ⟨2, ![64, 2]⟩
abbrev S64 : Shape := ⟨1, ![64]⟩
abbrev S64x512 : Shape := ⟨2, ![64, 512]⟩
abbrev S512x128 : Shape := ⟨2, ![512, 128]⟩
abbrev S512 : Shape := ⟨1, ![512]⟩
abbrev S128 : Shape := ⟨1, ![128]⟩
abbrev S5x128 : Shape := ⟨2, ![5, 128]⟩
abbrev S5 : Shape := ⟨1, ![5]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S512x8x2 .f32) (main_arg1 : FVec F S512x8x2 .f32) (main_arg2 : IVec S512x8 32) (main_arg3 : IVec S512x1 32) (main_arg4 : IVec S512x1 32) (main_arg5 : FVec F S64x2 .f32) (main_arg6 : FVec F S64 .f32) (main_arg7 : FVec F S64x512 .f32) (main_arg8 : FVec F S64 .f32) (main_arg9 : FVec F S512x128 .f32) (main_arg10 : FVec F S512x128 .f32) (main_arg11 : FVec F S512 .f32) (main_arg12 : FVec F S512 .f32) (main_arg13 : FVec F S128 .f32) (main_arg14 : FVec F S128 .f32) (main_arg15 : FVec F S5x128 .f32) (main_arg16 : FVec F S5 .f32) : IVec S128 1 :=
  let main_cst : FVec F S_ .f32 := constant S_ .f32 0x7F800000#32
  let main_v0 : FVec F S128 .f32 := broadcastInDim S128 ![] bcast_S_S128 main_cst
  let main_v1 : IVec S128 1 := cmpf .olt main_arg13 main_v0
  main_v1
-- ==== Kernel.lean ====
abbrev S512x8x2 : Shape := ⟨3, ![512, 8, 2]⟩
abbrev S512x8 : Shape := ⟨2, ![512, 8]⟩
abbrev S512x1 : Shape := ⟨2, ![512, 1]⟩
abbrev S64x2 : Shape := ⟨2, ![64, 2]⟩
abbrev S64 : Shape := ⟨1, ![64]⟩
abbrev S64x512 : Shape := ⟨2, ![64, 512]⟩
abbrev S512x128 : Shape := ⟨2, ![512, 128]⟩
abbrev S512 : Shape := ⟨1, ![512]⟩
abbrev S128 : Shape := ⟨1, ![128]⟩
abbrev S5x128 : Shape := ⟨2, ![5, 128]⟩
abbrev S5 : Shape := ⟨1, ![5]⟩
abbrev S8x2x512 : Shape := ⟨3, ![8, 2, 512]⟩
abbrev S8x512x2 : Shape := ⟨3, ![8, 512, 2]⟩
abbrev S1x512 : Shape := ⟨2, ![1, 512]⟩
abbrev S2x64 : Shape := ⟨2, ![2, 64]⟩
abbrev S1x64 : Shape := ⟨2, ![1, 64]⟩
abbrev S512x64 : Shape := ⟨2, ![512, 64]⟩
abbrev S128x512 : Shape := ⟨2, ![128, 512]⟩
abbrev S1x128 : Shape := ⟨2, ![1, 128]⟩
abbrev S128x5 : Shape := ⟨2, ![128, 5]⟩
abbrev S1x5 : Shape := ⟨2, ![1, 5]⟩
abbrev S12x512x5 : Shape := ⟨3, ![12, 512, 5]⟩
abbrev S12x512x2 : Shape := ⟨3, ![12, 512, 2]⟩
abbrev S512x512 : Shape := ⟨2, ![512, 512]⟩
abbrev S1x512x2 : Shape := ⟨3, ![1, 512, 2]⟩
abbrev S512x2 : Shape := ⟨2, ![512, 2]⟩
abbrev S1x2x512 : Shape := ⟨3, ![1, 2, 512]⟩
abbrev S2x512 : Shape := ⟨2, ![2, 512]⟩
abbrev S2048x512 : Shape := ⟨2, ![2048, 512]⟩
abbrev S1x2048x512 : Shape := ⟨3, ![1, 2048, 512]⟩
abbrev S1 : Shape := ⟨1, ![1]⟩
abbrev S1x1x1 : Shape := ⟨3, ![1, 1, 1]⟩
abbrev S512x384 : Shape := ⟨2, ![512, 384]⟩
abbrev S2048x128 : Shape := ⟨2, ![2048, 128]⟩
abbrev S2048x384 : Shape := ⟨2, ![2048, 384]⟩
abbrev S512x5 : Shape := ⟨2, ![512, 5]⟩
abbrev S1x512x5 : Shape := ⟨3, ![1, 512, 5]⟩
abbrev S512x12x5 : Shape := ⟨3, ![512, 12, 5]⟩
abbrev S512x12x2 : Shape := ⟨3, ![512, 12, 2]⟩

abbrev nBuf : Space → Nat
  | .hbm => 37
  | .vmem => 18
  | .smem => 0
  | _ => 0

abbrev bufTy : (tb : Table) → Fin (tcTables nBuf tb) → BufTy
  | .hbm, ⟨0, _⟩ => ⟨S512x8x2, .f32⟩
  | .hbm, ⟨1, _⟩ => ⟨S512x8x2, .f32⟩
  | .hbm, ⟨2, _⟩ => ⟨S512x8, .i32⟩
  | .hbm, ⟨3, _⟩ => ⟨S512x1, .i32⟩
  | .hbm, ⟨4, _⟩ => ⟨S512x1, .i32⟩
  | .hbm, ⟨5, _⟩ => ⟨S64x2, .f32⟩
  | .hbm, ⟨6, _⟩ => ⟨S64, .f32⟩
  | .hbm, ⟨7, _⟩ => ⟨S64x512, .f32⟩
  | .hbm, ⟨8, _⟩ => ⟨S64, .f32⟩
  | .hbm, ⟨9, _⟩ => ⟨S512x128, .f32⟩
  | .hbm, ⟨10, _⟩ => ⟨S512x128, .f32⟩
  | .hbm, ⟨11, _⟩ => ⟨S512, .f32⟩
  | .hbm, ⟨12, _⟩ => ⟨S512, .f32⟩
  | .hbm, ⟨13, _⟩ => ⟨S128, .f32⟩
  | .hbm, ⟨14, _⟩ => ⟨S128, .f32⟩
  | .hbm, ⟨15, _⟩ => ⟨S5x128, .f32⟩
  | .hbm, ⟨16, _⟩ => ⟨S5, .f32⟩
  | .hbm, ⟨17, _⟩ => ⟨S8x2x512, .f32⟩
  | .hbm, ⟨18, _⟩ => ⟨S8x512x2, .f32⟩
  | .hbm, ⟨19, _⟩ => ⟨S8x512x2, .f32⟩
  | .hbm, ⟨20, _⟩ => ⟨S1x512, .i32⟩
  | .hbm, ⟨21, _⟩ => ⟨S2x64, .f32⟩
  | .hbm, ⟨22, _⟩ => ⟨S1x64, .f32⟩
  | .hbm, ⟨23, _⟩ => ⟨S512x64, .f32⟩
  | .hbm, ⟨24, _⟩ => ⟨S1x64, .f32⟩
  | .hbm, ⟨25, _⟩ => ⟨S128x512, .f32⟩
  | .hbm, ⟨26, _⟩ => ⟨S128x512, .f32⟩
  | .hbm, ⟨27, _⟩ => ⟨S512, .f32⟩
  | .hbm, ⟨28, _⟩ => ⟨S1x512, .f32⟩
  | .hbm, ⟨29, _⟩ => ⟨S1x128, .f32⟩
  | .hbm, ⟨30, _⟩ => ⟨S1x128, .f32⟩
  | .hbm, ⟨31, _⟩ => ⟨S128x5, .f32⟩
  | .hbm, ⟨32, _⟩ => ⟨S1x5, .f32⟩
  | .hbm, ⟨33, _⟩ => ⟨S12x512x5, .f32⟩
  | .hbm, ⟨34, _⟩ => ⟨S12x512x2, .f32⟩
  | .hbm, ⟨35, _⟩ => ⟨S512x12x5, .f32⟩
  | .hbm, ⟨36, _⟩ => ⟨S512x12x2, .f32⟩
  | .local _ .vmem, ⟨0, _⟩ => ⟨S8x2x512, .f32⟩
  | .local _ .vmem, ⟨1, _⟩ => ⟨S8x512x2, .f32⟩
  | .local _ .vmem, ⟨2, _⟩ => ⟨S8x512x2, .f32⟩
  | .local _ .vmem, ⟨3, _⟩ => ⟨S512x1, .i32⟩
  | .local _ .vmem, ⟨4, _⟩ => ⟨S1x512, .i32⟩
  | .local _ .vmem, ⟨5, _⟩ => ⟨S2x64, .f32⟩
  | .local _ .vmem, ⟨6, _⟩ => ⟨S1x64, .f32⟩
  | .local _ .vmem, ⟨7, _⟩ => ⟨S512x64, .f32⟩
  | .local _ .vmem, ⟨8, _⟩ => ⟨S1x64, .f32⟩
  | .local _ .vmem, ⟨9, _⟩ => ⟨S128x512, .f32⟩
  | .local _ .vmem, ⟨10, _⟩ => ⟨S128x512, .f32⟩
  | .local _ .vmem, ⟨11, _⟩ => ⟨S1x512, .f32⟩
  | .local _ .vmem, ⟨12, _⟩ => ⟨S1x128, .f32⟩
  | .local _ .vmem, ⟨13, _⟩ => ⟨S1x128, .f32⟩
  | .local _ .vmem, ⟨14, _⟩ => ⟨S128x5, .f32⟩
  | .local _ .vmem, ⟨15, _⟩ => ⟨S1x5, .f32⟩
  | .local _ .vmem, ⟨16, _⟩ => ⟨S12x512x5, .f32⟩
  | .local _ .vmem, ⟨17, _⟩ => ⟨S12x512x2, .f32⟩
  | _, _ => ⟨S512x8x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v44 : BitVec 32 := Scalar.addi c0_i32 c8_i32
  let c1_i32 : BitVec 32 := 1#32
  ⟨c0_i32, v44, c1_i32⟩
def k0_off1 (k0_t1 : Fin k0_t1_loop.trips) : Fin 3 → Nat :=
  let c0_i32 : BitVec 32 := 0#32
  let c1_i32 : BitVec 32 := 1#32
  let arg18 : BitVec 32 := Scf.iv c0_i32 c1_i32 k0_t1
  let v55 : Index := Scalar.indexCast arg18
  let c0_34 : Index := 0#32
  let c0_35 : Index := 0#32
  ![v55.toNat, 0, 0]
def k0_off2 (k0_t1 : Fin k0_t1_loop.trips) : Fin 3 → Nat :=
  let c0_i32 : BitVec 32 := 0#32
  let c1_i32 : BitVec 32 := 1#32
  let arg18 : BitVec 32 := Scf.iv c0_i32 c1_i32 k0_t1
  let v58 : Index := Scalar.indexCast arg18
  let c0_36 : Index := 0#32
  let c0_37 : Index := 0#32
  ![v58.toNat, 0, 0]
@[reducible] def k0_t2_loop (v119 : BitVec 32) : Scf.Loop 32 :=
  let c0_i32_68 : BitVec 32 := 0#32
  let c1_i32_61 : BitVec 32 := 1#32
  let v134 : BitVec 32 := Scalar.addi v119 c1_i32_61
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c2_i32 : BitVec 32 := 2#32
  let c0_i32_64 : BitVec 32 := 0#32
  let v141 : BitVec 1 := Scalar.cmpi .sgt c2_i32 c0_i32_64
  let v142 : BitVec 32 := Scalar.extui v141
  let c0_i32_65 : BitVec 32 := 0#32
  let v143 : BitVec 1 := Scalar.cmpi .slt c2_i32 c0_i32_65
  let v144 : BitVec 32 := Scalar.extui v143
  let v145 : BitVec 32 := Scalar.subi v142 v144
  let v146 : BitVec 1 := Scalar.cmpi .ne v140 v145
  let v147 : BitVec 32 := Scalar.remsi v134 c2_i32
  let c0_i32_66 : BitVec 32 := 0#32
  let v148 : BitVec 1 := Scalar.cmpi .ne v147 c0_i32_66
  let v149 : BitVec 1 := Scalar.andi v146 v148
  let v135 : BitVec 32 := Scalar.divsi v134 c2_i32
  let c1_i32_67 : BitVec 32 := 1#32
  let v150 : BitVec 32 := Scalar.subi v135 c1_i32_67
  let v151 : BitVec 32 := Scalar.select v149 v150 v135
  let v152 : BitVec 32 := Scalar.subi v151 c0_i32_68
  let c1_i32_69 : BitVec 32 := 1#32
  let v154 : BitVec 32 := Scalar.divsi v152 c1_i32_69
  let v155 : BitVec 32 := Scalar.muli v154 c1_i32_69
  let v156 : BitVec 32 := Scalar.addi c0_i32_68 v155
  let c1_i32_70 : BitVec 32 := 1#32
  ⟨c0_i32_68, v156, c1_i32_70⟩

@[reducible] def k0_t3_loop (v119 : BitVec 32) : Scf.Loop 32 :=
  let c0_i32_68 : BitVec 32 := 0#32
  let c1_i32_61 : BitVec 32 := 1#32
  let v134 : BitVec 32 := Scalar.addi v119 c1_i32_61
  let c0_i32_62 : BitVec 32 := 0#32
  let v136 : BitVec 1 := Scalar.cmpi .sgt v134 c0_i32_62
  let v137 : BitVec 32 := Scalar.extui v136
  let c0_i32_63 : BitVec 32 := 0#32
  let v138 : BitVec 1 := Scalar.cmpi .slt v134 c0_i32_63
  let v139 : BitVec 32 := Scalar.extui v138
  let v140 : BitVec 32 := Scalar.subi v137 v139
  let c2_i32 : BitVec 32 := 2#32
  let c0_i32_64 : BitVec 32 := 0#32
  let v141 : BitVec 1 := Scalar.cmpi .sgt c2_i32 c0_i32_64
  let v142 : BitVec 32 := Scalar.extui v141
  let c0_i32_65 : BitVec 32 := 0#32
  let v143 : BitVec 1 := Scalar.cmpi .slt c2_i32 c0_i32_65
  let v144 : BitVec 32 := Scalar.extui v143
  let v145 : BitVec 32 := Scalar.subi v142 v144
  let v146 : BitVec 1 := Scalar.cmpi .ne v140 v145
  let v147 : BitVec 32 := Scalar.remsi v134 c2_i32
  let c0_i32_66 : BitVec 32 := 0#32
  let v148 : BitVec 1 := Scalar.cmpi .ne v147 c0_i32_66
  let v149 : BitVec 1 := Scalar.andi v146 v148
  let v135 : BitVec 32 := Scalar.divsi v134 c2_i32
  let c1_i32_67 : BitVec 32 := 1#32
  let v150 : BitVec 32 := Scalar.subi v135 c1_i32_67
  let v151 : BitVec 32 := Scalar.select v149 v150 v135
  let v152 : BitVec 32 := Scalar.subi v151 c0_i32_68
  let c1_i32_69 : BitVec 32 := 1#32
  let v154 : BitVec 32 := Scalar.divsi v152 c1_i32_69
  let v155 : BitVec 32 := Scalar.muli v154 c1_i32_69
  let v156 : BitVec 32 := Scalar.addi c0_i32_68 v155
  let v153 : BitVec 32 := Scalar.addi c0_i32_68 v152
  let c1_i32_71 : BitVec 32 := 1#32
  ⟨v156, v153, c1_i32_71⟩

def k0_chk1 (v119 : BitVec 32) : Prop :=
  ((k0_t2_loop v119).OK) ∧
  ((k0_t3_loop v119).OK)
theorem k0_t2_ok : ∀ (v119 : BitVec 32) (k0_hw1 : k0_chk1 v119), (k0_t2_loop v119).OK := fun v119 k0_hw1 => k0_hw1.1
theorem k0_t3_ok : ∀ (v119 : BitVec 32) (k0_hw1 : k0_chk1 v119), (k0_t3_loop v119).OK := fun v119 k0_hw1 => k0_hw1.2

@[reducible] def k0_t4_loop : Scf.Loop 32 :=
  let c0_i32_31 : BitVec 32 := 0#32
  let c12_i32 : BitVec 32 := 12#32
  let v53 : BitVec 32 := Scalar.addi c0_i32_31 c12_i32
  let c1_i32_32 : BitVec 32 := 1#32
  ⟨c0_i32_31, v53, c1_i32_32⟩
def k0_off3 (k0_t4 : Fin k0_t4_loop.trips) : Fin 3 → Nat :=
  let c0_i32_31 : BitVec 32 := 0#32
  let c1_i32_32 : BitVec 32 := 1#32
  let arg18 : BitVec 32 := Scf.iv c0_i32_31 c1_i32_32 k0_t4
  let v59 : Index := Scalar.indexCast arg18
  let c0_35 : Index := 0#32
  let c0_36 : Index := 0#32
  ![v59.toNat, 0, 0]
def k0_off4 (k0_t4 : Fin k0_t4_loop.trips) : Fin 3 → Nat :=
  let c0_i32_31 : BitVec 32 := 0#32
  let c1_i32_32 : BitVec 32 := 1#32
  let arg18 : BitVec 32 := Scf.iv c0_i32_31 c1_i32_32 k0_t4
  let v65 : Index := Scalar.indexCast arg18
  let c0_37 : Index := 0#32
  let c0_38 : Index := 0#32
  ![v65.toNat, 0, 0]
@[reducible] def k0_t5_loop (v135 : BitVec 32) : Scf.Loop 32 :=
  let c0_i32_69 : BitVec 32 := 0#32
  let c1_i32_62 : BitVec 32 := 1#32
  let v150 : BitVec 32 := Scalar.addi v135 c1_i32_62
  let c0_i32_63 : BitVec 32 := 0#32
  let v152 : BitVec 1 := Scalar.cmpi .sgt v150 c0_i32_63
  let v153 : BitVec 32 := Scalar.extui v152
  let c0_i32_64 : BitVec 32 := 0#32
  let v154 : BitVec 1 := Scalar.cmpi .slt v150 c0_i32_64
  let v155 : BitVec 32 := Scalar.extui v154
  let v156 : BitVec 32 := Scalar.subi v153 v155
  let c2_i32 : BitVec 32 := 2#32
  let c0_i32_65 : BitVec 32 := 0#32
  let v157 : BitVec 1 := Scalar.cmpi .sgt c2_i32 c0_i32_65
  let v158 : BitVec 32 := Scalar.extui v157
  let c0_i32_66 : BitVec 32 := 0#32
  let v159 : BitVec 1 := Scalar.cmpi .slt c2_i32 c0_i32_66
  let v160 : BitVec 32 := Scalar.extui v159
  let v161 : BitVec 32 := Scalar.subi v158 v160
  let v162 : BitVec 1 := Scalar.cmpi .ne v156 v161
  let v163 : BitVec 32 := Scalar.remsi v150 c2_i32
  let c0_i32_67 : BitVec 32 := 0#32
  let v164 : BitVec 1 := Scalar.cmpi .ne v163 c0_i32_67
  let v165 : BitVec 1 := Scalar.andi v162 v164
  let v151 : BitVec 32 := Scalar.divsi v150 c2_i32
  let c1_i32_68 : BitVec 32 := 1#32
  let v166 : BitVec 32 := Scalar.subi v151 c1_i32_68
  let v167 : BitVec 32 := Scalar.select v165 v166 v151
  let v168 : BitVec 32 := Scalar.subi v167 c0_i32_69
  let c1_i32_70 : BitVec 32 := 1#32
  let v170 : BitVec 32 := Scalar.divsi v168 c1_i32_70
  let v171 : BitVec 32 := Scalar.muli v170 c1_i32_70
  let v172 : BitVec 32 := Scalar.addi c0_i32_69 v171
  let c1_i32_71 : BitVec 32 := 1#32
  ⟨c0_i32_69, v172, c1_i32_71⟩

@[reducible] def k0_t6_loop (v135 : BitVec 32) : Scf.Loop 32 :=
  let c0_i32_69 : BitVec 32 := 0#32
  let c1_i32_62 : BitVec 32 := 1#32
  let v150 : BitVec 32 := Scalar.addi v135 c1_i32_62
  let c0_i32_63 : BitVec 32 := 0#32
  let v152 : BitVec 1 := Scalar.cmpi .sgt v150 c0_i32_63
  let v153 : BitVec 32 := Scalar.extui v152
  let c0_i32_64 : BitVec 32 := 0#32
  let v154 : BitVec 1 := Scalar.cmpi .slt v150 c0_i32_64
  let v155 : BitVec 32 := Scalar.extui v154
  let v156 : BitVec 32 := Scalar.subi v153 v155
  let c2_i32 : BitVec 32 := 2#32
  let c0_i32_65 : BitVec 32 := 0#32
  let v157 : BitVec 1 := Scalar.cmpi .sgt c2_i32 c0_i32_65
  let v158 : BitVec 32 := Scalar.extui v157
  let c0_i32_66 : BitVec 32 := 0#32
  let v159 : BitVec 1 := Scalar.cmpi .slt c2_i32 c0_i32_66
  let v160 : BitVec 32 := Scalar.extui v159
  let v161 : BitVec 32 := Scalar.subi v158 v160
  let v162 : BitVec 1 := Scalar.cmpi .ne v156 v161
  let v163 : BitVec 32 := Scalar.remsi v150 c2_i32
  let c0_i32_67 : BitVec 32 := 0#32
  let v164 : BitVec 1 := Scalar.cmpi .ne v163 c0_i32_67
  let v165 : BitVec 1 := Scalar.andi v162 v164
  let v151 : BitVec 32 := Scalar.divsi v150 c2_i32
  let c1_i32_68 : BitVec 32 := 1#32
  let v166 : BitVec 32 := Scalar.subi v151 c1_i32_68
  let v167 : BitVec 32 := Scalar.select v165 v166 v151
  let v168 : BitVec 32 := Scalar.subi v167 c0_i32_69
  let c1_i32_70 : BitVec 32 := 1#32
  let v170 : BitVec 32 := Scalar.divsi v168 c1_i32_70
  let v171 : BitVec 32 := Scalar.muli v170 c1_i32_70
  let v172 : BitVec 32 := Scalar.addi c0_i32_69 v171
  let v169 : BitVec 32 := Scalar.addi c0_i32_69 v168
  let c1_i32_72 : BitVec 32 := 1#32
  ⟨v172, v169, c1_i32_72⟩

def k0_chk2 (v135 : BitVec 32) : Prop :=
  ((k0_t5_loop v135).OK) ∧
  ((k0_t6_loop v135).OK)
theorem k0_t5_ok : ∀ (v135 : BitVec 32) (k0_hw2 : k0_chk2 v135), (k0_t5_loop v135).OK := fun v135 k0_hw2 => k0_hw2.1
theorem k0_t6_ok : ∀ (v135 : BitVec 32) (k0_hw2 : k0_chk2 v135), (k0_t6_loop v135).OK := fun v135 k0_hw2 => k0_hw2.2

abbrev stage0_0 : Fin 1 → Memref sig .tc .vmem S8x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x5 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x5 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S12x512x5 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S12x512x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== ReferenceIdeal.lean ====
abbrev S512x8x2 : Shape := ⟨3, ![512, 8, 2]⟩
abbrev S512x8 : Shape := ⟨2, ![512, 8]⟩
abbrev S512x1 : Shape := ⟨2, ![512, 1]⟩
abbrev S64x2 : Shape := ⟨2, ![64, 2]⟩
abbrev S64 : Shape := ⟨1, ![64]⟩
abbrev S64x512 : Shape := ⟨2, ![64, 512]⟩
abbrev S512x128 : Shape := ⟨2, ![512, 128]⟩
abbrev S512 : Shape := ⟨1, ![512]⟩
abbrev S128 : Shape := ⟨1, ![128]⟩
abbrev S5x128 : Shape := ⟨2, ![5, 128]⟩
abbrev S5 : Shape := ⟨1, ![5]⟩
abbrev S1x128 : Shape := ⟨2, ![1, 128]⟩
abbrev S_ : Shape := ⟨0, ![]⟩
abbrev S512x12x5 : Shape := ⟨3, ![512, 12, 5]⟩
abbrev S512x12x2 : Shape := ⟨3, ![512, 12, 2]⟩
abbrev S512x1x2 : Shape := ⟨3, ![512, 1, 2]⟩
abbrev S512x2 : Shape := ⟨2, ![512, 2]⟩
abbrev S20 : Shape := ⟨1, ![20]⟩
abbrev S1 : Shape := ⟨1, ![1]⟩
abbrev S128x5 : Shape := ⟨2, ![128, 5]⟩
abbrev S512x5 : Shape := ⟨2, ![512, 5]⟩
abbrev S1x5 : Shape := ⟨2, ![1, 5]⟩
abbrev S1x512x2 : Shape := ⟨3, ![1, 512, 2]⟩
abbrev S512x512x2 : Shape := ⟨3, ![512, 512, 2]⟩
abbrev S512x512x1 : Shape := ⟨3, ![512, 512, 1]⟩
abbrev S512x512 : Shape := ⟨2, ![512, 512]⟩
abbrev S1x512 : Shape := ⟨2, ![1, 512]⟩
abbrev S1x512x128 : Shape := ⟨3, ![1, 512, 128]⟩
abbrev S512x512x128 : Shape := ⟨3, ![512, 512, 128]⟩
abbrev S262144 : Shape := ⟨1, ![262144]⟩
abbrev S262144x128 : Shape := ⟨2, ![262144, 128]⟩
abbrev S2048x128 : Shape := ⟨2, ![2048, 128]⟩
abbrev S262144x1 : Shape := ⟨2, ![262144, 1]⟩
abbrev S512x4x128 : Shape := ⟨3, ![512, 4, 128]⟩
abbrev S2x64 : Shape := ⟨2, ![2, 64]⟩
abbrev S512x64 : Shape := ⟨2, ![512, 64]⟩
abbrev S1x64 : Shape := ⟨2, ![1, 64]⟩
abbrev S128x512 : Shape := ⟨2, ![128, 512]⟩
abbrev S12 : Shape := ⟨1, ![12]⟩
abbrev S1x12x1 : Shape := ⟨3, ![1, 12, 1]⟩
abbrev S512x1x5 : Shape := ⟨3, ![512, 1, 5]⟩

abbrev nBuf : Space → Nat
  | .hbm => 252
  | .vmem => 0
  | .smem => 0
  | _ => 0

abbrev hbmTy0_0 (i : Nat) : BufTy := match i % 128 with
  | 0 => ⟨S512x8x2, .f32⟩
  | 1 => ⟨S512x8x2, .f32⟩
  | 2 => ⟨S512x8, .i32⟩
  | 3 => ⟨S512x1, .i32⟩
  | 4 => ⟨S512x1, .i32⟩
  | 5 => ⟨S64x2, .f32⟩
  | 6 => ⟨S64, .f32⟩
  | 7 => ⟨S64x512, .f32⟩
  | 8 => ⟨S64, .f32⟩
  | 9 => ⟨S512x128, .f32⟩
  | 10 => ⟨S512x128, .f32⟩
  | 11 => ⟨S512, .f32⟩
  | 12 => ⟨S512, .f32⟩
  | 13 => ⟨S128, .f32⟩
  | 14 => ⟨S128, .f32⟩
  | 15 => ⟨S5x128, .f32⟩
  | 16 => ⟨S5, .f32⟩
  | 17 => ⟨S512, .i32⟩
  | 18 => ⟨S1x128, .f32⟩
  | 19 => ⟨S512x128, .f32⟩
  | 20 => ⟨S1x128, .f32⟩
  | 21 => ⟨S512x128, .f32⟩
  | 22 => ⟨S_, .f32⟩
  | 23 => ⟨S512x12x5, .f32⟩
  | 24 => ⟨S_, .f32⟩
  | 25 => ⟨S512x12x2, .f32⟩
  | 26 => ⟨S512x1x2, .f32⟩
  | 27 => ⟨S512x2, .f32⟩
  | 28 => ⟨S20, .i32⟩
  | 29 => ⟨S_, .i32⟩
  | 30 => ⟨S20, .i32⟩
  | 31 => ⟨S5x128, .f32⟩
  | 32 => ⟨S5, .f32⟩
  | 33 => ⟨S512x8x2, .f32⟩
  | 34 => ⟨S512x8x2, .f32⟩
  | 35 => ⟨S512, .i32⟩
  | 36 => ⟨S64x2, .f32⟩
  | 37 => ⟨S64, .f32⟩
  | 38 => ⟨S64x512, .f32⟩
  | 39 => ⟨S64, .f32⟩
  | 40 => ⟨S512x128, .f32⟩
  | 41 => ⟨S512, .f32⟩
  | 42 => ⟨S512x128, .f32⟩
  | 43 => ⟨S512, .f32⟩
  | 44 => ⟨S_, .i32⟩
  | 45 => ⟨S512x128, .f32⟩
  | 46 => ⟨S512x128, .f32⟩
  | 47 => ⟨S512x2, .f32⟩
  | 48 => ⟨S512x12x5, .f32⟩
  | 49 => ⟨S512x12x2, .f32⟩
  | 50 => ⟨S_, .i32⟩
  | 51 => ⟨S_, .i1⟩
  | 52 => ⟨S1, .i32⟩
  | 53 => ⟨S_, .i32⟩
  | 54 => ⟨S128x5, .f32⟩
  | 55 => ⟨S512x5, .f32⟩
  | 56 => ⟨S1x5, .f32⟩
  | 57 => ⟨S512x5, .f32⟩
  | 58 => ⟨S512x5, .f32⟩
  | 59 => ⟨S_, .i32⟩
  | 60 => ⟨S_, .i1⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S512x1x2, .f32⟩
  | 69 => ⟨S512x2, .f32⟩
  | 70 => ⟨S512x2, .f32⟩
  | 71 => ⟨S512x2, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S512x1x2, .f32⟩
  | 80 => ⟨S512x2, .f32⟩
  | 81 => ⟨S512x2, .f32⟩
  | 82 => ⟨S512x2, .f32⟩
  | 83 => ⟨S1x512x2, .f32⟩
  | 84 => ⟨S512x1x2, .f32⟩
  | 85 => ⟨S512x512x2, .f32⟩
  | 86 => ⟨S512x512x2, .f32⟩
  | 87 => ⟨S512x512x2, .f32⟩
  | 88 => ⟨S512x512x1, .f32⟩
  | 89 => ⟨S512x512, .f32⟩
  | 90 => ⟨S_, .f32⟩
  | 91 => ⟨S512x512, .f32⟩
  | 92 => ⟨S512x512, .i1⟩
  | 93 => ⟨S512x512x1, .f32⟩
  | 94 => ⟨S512x512, .f32⟩
  | 95 => ⟨S_, .f32⟩
  | 96 => ⟨S512x512, .f32⟩
  | 97 => ⟨S512x512, .i1⟩
  | 98 => ⟨S512x512, .i1⟩
  | 99 => ⟨S512x512x1, .f32⟩
  | 100 => ⟨S512x512, .f32⟩
  | 101 => ⟨S_, .f32⟩
  | 102 => ⟨S512x512, .f32⟩
  | 103 => ⟨S512x512, .i1⟩
  | 104 => ⟨S512x512, .i1⟩
  | 105 => ⟨S512x512x1, .f32⟩
  | 106 => ⟨S512x512, .f32⟩
  | 107 => ⟨S_, .f32⟩
  | 108 => ⟨S512x512, .f32⟩
  | 109 => ⟨S512x512, .i1⟩
  | 110 => ⟨S512x512, .i1⟩
  | 111 => ⟨S512x1, .i32⟩
  | 112 => ⟨S1x512, .i32⟩
  | 113 => ⟨S512x512, .i32⟩
  | 114 => ⟨S512x512, .i32⟩
  | 115 => ⟨S512x512, .i1⟩
  | 116 => ⟨S512x512, .i1⟩
  | 117 => ⟨S512x512, .f32⟩
  | 118 => ⟨S512x512, .i32⟩
  | 119 => ⟨S512x512, .i32⟩
  | 120 => ⟨S_, .i32⟩
  | 121 => ⟨S512x512, .i32⟩
  | 122 => ⟨S512x512, .i32⟩
  | 123 => ⟨S512x512, .i1⟩
  | 124 => ⟨S512x512, .f32⟩
  | 125 => ⟨S512x512, .f32⟩
  | 126 => ⟨S_, .f32⟩
  | 127 => ⟨S512x512, .f32⟩
  | _ => ⟨S512x8x2, .f32⟩

abbrev hbmTy0_1 (i : Nat) : BufTy := match i % 128 with
  | 0 => ⟨S512x512, .f32⟩
  | 1 => ⟨S_, .f32⟩
  | 2 => ⟨S512x512x2, .f32⟩
  | 3 => ⟨S512x512x2, .f32⟩
  | 4 => ⟨S_, .f32⟩
  | 5 => ⟨S512x512x2, .f32⟩
  | 6 => ⟨S512x512x2, .f32⟩
  | 7 => ⟨S512x512x2, .f32⟩
  | 8 => ⟨S512x512x1, .f32⟩
  | 9 => ⟨S512x512, .f32⟩
  | 10 => ⟨S_, .f32⟩
  | 11 => ⟨S512x512, .f32⟩
  | 12 => ⟨S512x512, .f32⟩
  | 13 => ⟨S512x512x1, .f32⟩
  | 14 => ⟨S512x512, .f32⟩
  | 15 => ⟨S512x512, .f32⟩
  | 16 => ⟨S512x512, .f32⟩
  | 17 => ⟨S512x512, .i32⟩
  | 18 => ⟨S_, .i32⟩
  | 19 => ⟨S_, .i32⟩
  | 20 => ⟨S_, .i32⟩
  | 21 => ⟨S512x512, .i32⟩
  | 22 => ⟨S512x512, .i32⟩
  | 23 => ⟨S_, .i32⟩
  | 24 => ⟨S512x512, .i32⟩
  | 25 => ⟨S512x512, .i32⟩
  | 26 => ⟨S1x512x128, .f32⟩
  | 27 => ⟨S512x512x1, .f32⟩
  | 28 => ⟨S512x512x128, .f32⟩
  | 29 => ⟨S512x512x128, .f32⟩
  | 30 => ⟨S512x512x128, .f32⟩
  | 31 => ⟨S512, .i32⟩
  | 32 => ⟨S512x1, .i32⟩
  | 33 => ⟨S_, .i32⟩
  | 34 => ⟨S512x1, .i32⟩
  | 35 => ⟨S512x1, .i32⟩
  | 36 => ⟨S512x512, .i32⟩
  | 37 => ⟨S512x512, .i32⟩
  | 38 => ⟨S262144, .i32⟩
  | 39 => ⟨S262144x128, .f32⟩
  | 40 => ⟨S_, .f32⟩
  | 41 => ⟨S2048x128, .f32⟩
  | 42 => ⟨S262144x1, .i32⟩
  | 43 => ⟨S2048x128, .f32⟩
  | 44 => ⟨S512x4x128, .f32⟩
  | 45 => ⟨S2x64, .f32⟩
  | 46 => ⟨S512x64, .f32⟩
  | 47 => ⟨S1x64, .f32⟩
  | 48 => ⟨S512x64, .f32⟩
  | 49 => ⟨S512x64, .f32⟩
  | 50 => ⟨S_, .f32⟩
  | 51 => ⟨S512x64, .f32⟩
  | 52 => ⟨S512x64, .f32⟩
  | 53 => ⟨S512x512, .f32⟩
  | 54 => ⟨S512x64, .f32⟩
  | 55 => ⟨S512x64, .f32⟩
  | 56 => ⟨S1x64, .f32⟩
  | 57 => ⟨S512x64, .f32⟩
  | 58 => ⟨S512x64, .f32⟩
  | 59 => ⟨S_, .f32⟩
  | 60 => ⟨S512x64, .f32⟩
  | 61 => ⟨S512x64, .f32⟩
  | 62 => ⟨S512x128, .f32⟩
  | 63 => ⟨S128x512, .f32⟩
  | 64 => ⟨S512x512, .f32⟩
  | 65 => ⟨S1x512, .f32⟩
  | 66 => ⟨S512x512, .f32⟩
  | 67 => ⟨S512x512, .f32⟩
  | 68 => ⟨S128x512, .f32⟩
  | 69 => ⟨S512x512, .f32⟩
  | 70 => ⟨S512x512, .f32⟩
  | 71 => ⟨S1x512, .f32⟩
  | 72 => ⟨S512x512, .f32⟩
  | 73 => ⟨S512x512, .f32⟩
  | 74 => ⟨S512x128, .f32⟩
  | 75 => ⟨S512x128, .f32⟩
  | 76 => ⟨S512x128, .f32⟩
  | 77 => ⟨S512x128, .f32⟩
  | 78 => ⟨S512x128, .f32⟩
  | 79 => ⟨S512x128, .f32⟩
  | 80 => ⟨S_, .f32⟩
  | 81 => ⟨S512x128, .f32⟩
  | 82 => ⟨S512x128, .f32⟩
  | 83 => ⟨S_, .f32⟩
  | 84 => ⟨S512x128, .f32⟩
  | 85 => ⟨S512x128, .f32⟩
  | 86 => ⟨S512x128, .f32⟩
  | 87 => ⟨S512x128, .f32⟩
  | 88 => ⟨S_, .f32⟩
  | 89 => ⟨S512x128, .f32⟩
  | 90 => ⟨S512x128, .f32⟩
  | 91 => ⟨S_, .f32⟩
  | 92 => ⟨S512x128, .f32⟩
  | 93 => ⟨S512x128, .f32⟩
  | 94 => ⟨S512x128, .f32⟩
  | 95 => ⟨S512x128, .f32⟩
  | 96 => ⟨S512x128, .f32⟩
  | 97 => ⟨S_, .f32⟩
  | 98 => ⟨S512x128, .f32⟩
  | 99 => ⟨S512x128, .f32⟩
  | 100 => ⟨S_, .f32⟩
  | 101 => ⟨S512x128, .f32⟩
  | 102 => ⟨S512x128, .f32⟩
  | 103 => ⟨S512x128, .f32⟩
  | 104 => ⟨S512x128, .f32⟩
  | 105 => ⟨S512x128, .f32⟩
  | 106 => ⟨S512x128, .f32⟩
  | 107 => ⟨S512x128, .f32⟩
  | 108 => ⟨S12, .i32⟩
  | 109 => ⟨S_, .i32⟩
  | 110 => ⟨S_, .i32⟩
  | 111 => ⟨S12, .i32⟩
  | 112 => ⟨S12, .i1⟩
  | 113 => ⟨S1x12x1, .i1⟩
  | 114 => ⟨S512x1x5, .f32⟩
  | 115 => ⟨S512x12x5, .i1⟩
  | 116 => ⟨S512x12x5, .f32⟩
  | 117 => ⟨S512x12x5, .f32⟩
  | 118 => ⟨S512x1x2, .f32⟩
  | 119 => ⟨S512x12x2, .i1⟩
  | 120 => ⟨S512x12x2, .f32⟩
  | 121 => ⟨S512x12x2, .f32⟩
  | 122 => ⟨S_, .i32⟩
  | 123 => ⟨S_, .i32⟩
  | _ => ⟨S512x8x2, .f32⟩

abbrev hbmTy (i : Nat) : BufTy := match i / 128 with
  | 0 => hbmTy0_0 i
  | 1 => hbmTy0_1 i
  | _ => ⟨S512x8x2, .f32⟩

abbrev bufTy : (tb : Table) → Fin (tcTables nBuf tb) → BufTy
  | .hbm, ⟨i, _⟩ => hbmTy i
  | _, _ => ⟨S512x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10_0 : Ref sig .tc := ⟨.hbm, 30, rfl⟩
abbrev main_v10_1 : Ref sig .tc := ⟨.hbm, 31, rfl⟩
abbrev main_v10_2 : Ref sig .tc := ⟨.hbm, 32, rfl⟩
abbrev main_v10_3 : Ref sig .tc := ⟨.hbm, 33, rfl⟩
abbrev main_v10_4 : Ref sig .tc := ⟨.hbm, 34, rfl⟩
abbrev main_v10_5 : Ref sig .tc := ⟨.hbm, 35, rfl⟩
abbrev main_v10_6 : Ref sig .tc := ⟨.hbm, 36, rfl⟩
abbrev main_v10_7 : Ref sig .tc := ⟨.hbm, 37, rfl⟩
abbrev main_v10_8 : Ref sig .tc := ⟨.hbm, 38, rfl⟩
abbrev main_v10_9 : Ref sig .tc := ⟨.hbm, 39, rfl⟩
abbrev main_v10_10 : Ref sig .tc := ⟨.hbm, 40, rfl⟩
abbrev main_v10_11 : Ref sig .tc := ⟨.hbm, 41, rfl⟩
abbrev main_v10_12 : Ref sig .tc := ⟨.hbm, 42, rfl⟩
abbrev main_v10_13 : Ref sig .tc := ⟨.hbm, 43, rfl⟩
abbrev main_v10_14 : Ref sig .tc := ⟨.hbm, 44, rfl⟩
abbrev main_v10_15 : Ref sig .tc := ⟨.hbm, 45, rfl⟩
abbrev main_v10_16 : Ref sig .tc := ⟨.hbm, 46, rfl⟩
abbrev main_v10_17 : Ref sig .tc := ⟨.hbm, 47, rfl⟩
abbrev main_v10_18 : Ref sig .tc := ⟨.hbm, 48, rfl⟩
abbrev main_v10_19 : Ref sig .tc := ⟨.hbm, 49, rfl⟩
abbrev main_while0c_c_20 : Ref sig .tc := ⟨.hbm, 50, rfl⟩
abbrev main_while0c_v11 : Ref sig .tc := ⟨.hbm, 51, rfl⟩
abbrev main_while0b_call0_v0 : Ref sig .tc := ⟨.hbm, 52, rfl⟩
abbrev main_while0b_v11 : Ref sig .tc := ⟨.hbm, 53, rfl⟩
abbrev main_while0b_v12 : Ref sig .tc := ⟨.hbm, 54, rfl⟩
abbrev main_while0b_v13 : Ref sig .tc := ⟨.hbm, 55, rfl⟩
abbrev main_while0b_v14 : Ref sig .tc := ⟨.hbm, 56, rfl⟩
abbrev main_while0b_v15 : Ref sig .tc := ⟨.hbm, 57, rfl⟩
abbrev main_while0b_v16 : Ref sig .tc := ⟨.hbm, 58, rfl⟩
abbrev main_while0b_c_20 : Ref sig .tc := ⟨.hbm, 59, rfl⟩
abbrev main_while0b_v17 : Ref sig .tc := ⟨.hbm, 60, rfl⟩
abbrev main_while0b_call1_c : Ref sig .tc := ⟨.hbm, 61, rfl⟩
abbrev main_while0b_call1_v0 : Ref sig .tc := ⟨.hbm, 62, rfl⟩
abbrev main_while0b_call1_c_0 : Ref sig .tc := ⟨.hbm, 63, rfl⟩
abbrev main_while0b_call1_v1 : Ref sig .tc := ⟨.hbm, 64, rfl⟩
abbrev main_while0b_call1_v2 : Ref sig .tc := ⟨.hbm, 65, rfl⟩
abbrev main_while0b_call1_c_1 : Ref sig .tc := ⟨.hbm, 66, rfl⟩
abbrev main_while0b_call1_c_2 : Ref sig .tc := ⟨.hbm, 67, rfl⟩
abbrev main_while0b_call1_v3 : Ref sig .tc := ⟨.hbm, 68, rfl⟩
abbrev main_while0b_v18 : Ref sig .tc := ⟨.hbm, 69, rfl⟩
abbrev main_while0b_v19 : Ref sig .tc := ⟨.hbm, 70, rfl⟩
abbrev main_while0b_v20 : Ref sig .tc := ⟨.hbm, 71, rfl⟩
abbrev main_while0b_call3_c : Ref sig .tc := ⟨.hbm, 72, rfl⟩
abbrev main_while0b_call3_v0 : Ref sig .tc := ⟨.hbm, 73, rfl⟩
abbrev main_while0b_call3_c_0 : Ref sig .tc := ⟨.hbm, 74, rfl⟩
abbrev main_while0b_call3_v1 : Ref sig .tc := ⟨.hbm, 75, rfl⟩
abbrev main_while0b_call3_v2 : Ref sig .tc := ⟨.hbm, 76, rfl⟩
abbrev main_while0b_call3_c_1 : Ref sig .tc := ⟨.hbm, 77, rfl⟩
abbrev main_while0b_call3_c_2 : Ref sig .tc := ⟨.hbm, 78, rfl⟩
abbrev main_while0b_call3_v3 : Ref sig .tc := ⟨.hbm, 79, rfl⟩
abbrev main_while0b_v21 : Ref sig .tc := ⟨.hbm, 80, rfl⟩
abbrev main_while0b_v22 : Ref sig .tc := ⟨.hbm, 81, rfl⟩
abbrev main_while0b_v23 : Ref sig .tc := ⟨.hbm, 82, rfl⟩
abbrev main_while0b_v24 : Ref sig .tc := ⟨.hbm, 83, rfl⟩
abbrev main_while0b_v25 : Ref sig .tc := ⟨.hbm, 84, rfl⟩
abbrev main_while0b_v26 : Ref sig .tc := ⟨.hbm, 85, rfl⟩
abbrev main_while0b_v27 : Ref sig .tc := ⟨.hbm, 86, rfl⟩
abbrev main_while0b_v28 : Ref sig .tc := ⟨.hbm, 87, rfl⟩
abbrev main_while0b_v29 : Ref sig .tc := ⟨.hbm, 88, rfl⟩
abbrev main_while0b_v30 : Ref sig .tc := ⟨.hbm, 89, rfl⟩
abbrev main_while0b_cst_21 : Ref sig .tc := ⟨.hbm, 90, rfl⟩
abbrev main_while0b_v31 : Ref sig .tc := ⟨.hbm, 91, rfl⟩
abbrev main_while0b_v32 : Ref sig .tc := ⟨.hbm, 92, rfl⟩
abbrev main_while0b_v33 : Ref sig .tc := ⟨.hbm, 93, rfl⟩
abbrev main_while0b_v34 : Ref sig .tc := ⟨.hbm, 94, rfl⟩
abbrev main_while0b_cst_22 : Ref sig .tc := ⟨.hbm, 95, rfl⟩
abbrev main_while0b_v35 : Ref sig .tc := ⟨.hbm, 96, rfl⟩
abbrev main_while0b_v36 : Ref sig .tc := ⟨.hbm, 97, rfl⟩
abbrev main_while0b_v37 : Ref sig .tc := ⟨.hbm, 98, rfl⟩
abbrev main_while0b_v38 : Ref sig .tc := ⟨.hbm, 99, rfl⟩
abbrev main_while0b_v39 : Ref sig .tc := ⟨.hbm, 100, rfl⟩
abbrev main_while0b_cst_23 : Ref sig .tc := ⟨.hbm, 101, rfl⟩
abbrev main_while0b_v40 : Ref sig .tc := ⟨.hbm, 102, rfl⟩
abbrev main_while0b_v41 : Ref sig .tc := ⟨.hbm, 103, rfl⟩
abbrev main_while0b_v42 : Ref sig .tc := ⟨.hbm, 104, rfl⟩
abbrev main_while0b_v43 : Ref sig .tc := ⟨.hbm, 105, rfl⟩
abbrev main_while0b_v44 : Ref sig .tc := ⟨.hbm, 106, rfl⟩
abbrev main_while0b_cst_24 : Ref sig .tc := ⟨.hbm, 107, rfl⟩
abbrev main_while0b_v45 : Ref sig .tc := ⟨.hbm, 108, rfl⟩
abbrev main_while0b_v46 : Ref sig .tc := ⟨.hbm, 109, rfl⟩
abbrev main_while0b_v47 : Ref sig .tc := ⟨.hbm, 110, rfl⟩
abbrev main_while0b_v48 : Ref sig .tc := ⟨.hbm, 111, rfl⟩
abbrev main_while0b_v49 : Ref sig .tc := ⟨.hbm, 112, rfl⟩
abbrev main_while0b_v50 : Ref sig .tc := ⟨.hbm, 113, rfl⟩
abbrev main_while0b_v51 : Ref sig .tc := ⟨.hbm, 114, rfl⟩
abbrev main_while0b_v52 : Ref sig .tc := ⟨.hbm, 115, rfl⟩
abbrev main_while0b_v53 : Ref sig .tc := ⟨.hbm, 116, rfl⟩
abbrev main_while0b_v54 : Ref sig .tc := ⟨.hbm, 117, rfl⟩
abbrev main_while0b_v55 : Ref sig .tc := ⟨.hbm, 118, rfl⟩
abbrev main_while0b_v56 : Ref sig .tc := ⟨.hbm, 119, rfl⟩
abbrev main_while0b_c_25 : Ref sig .tc := ⟨.hbm, 120, rfl⟩
abbrev main_while0b_v57 : Ref sig .tc := ⟨.hbm, 121, rfl⟩
abbrev main_while0b_v58 : Ref sig .tc := ⟨.hbm, 122, rfl⟩
abbrev main_while0b_v59 : Ref sig .tc := ⟨.hbm, 123, rfl⟩
abbrev main_while0b_v60 : Ref sig .tc := ⟨.hbm, 124, rfl⟩
abbrev main_while0b_v61 : Ref sig .tc := ⟨.hbm, 125, rfl⟩
abbrev main_while0b_cst_26 : Ref sig .tc := ⟨.hbm, 126, rfl⟩
abbrev main_while0b_v62 : Ref sig .tc := ⟨.hbm, 127, rfl⟩
abbrev main_while0b_v63 : Ref sig .tc := ⟨.hbm, 128, rfl⟩
abbrev main_while0b_cst_27 : Ref sig .tc := ⟨.hbm, 129, rfl⟩
abbrev main_while0b_v64 : Ref sig .tc := ⟨.hbm, 130, rfl⟩
abbrev main_while0b_v65 : Ref sig .tc := ⟨.hbm, 131, rfl⟩
abbrev main_while0b_cst_28 : Ref sig .tc := ⟨.hbm, 132, rfl⟩
abbrev main_while0b_v66 : Ref sig .tc := ⟨.hbm, 133, rfl⟩
abbrev main_while0b_v67 : Ref sig .tc := ⟨.hbm, 134, rfl⟩
abbrev main_while0b_v68 : Ref sig .tc := ⟨.hbm, 135, rfl⟩
abbrev main_while0b_v69 : Ref sig .tc := ⟨.hbm, 136, rfl⟩
abbrev main_while0b_v70 : Ref sig .tc := ⟨.hbm, 137, rfl⟩
abbrev main_while0b_cst_29 : Ref sig .tc := ⟨.hbm, 138, rfl⟩
abbrev main_while0b_v71 : Ref sig .tc := ⟨.hbm, 139, rfl⟩
abbrev main_while0b_v72 : Ref sig .tc := ⟨.hbm, 140, rfl⟩
abbrev main_while0b_v73 : Ref sig .tc := ⟨.hbm, 141, rfl⟩
abbrev main_while0b_v74 : Ref sig .tc := ⟨.hbm, 142, rfl⟩
abbrev main_while0b_v75 : Ref sig .tc := ⟨.hbm, 143, rfl⟩
abbrev main_while0b_v76 : Ref sig .tc := ⟨.hbm, 144, rfl⟩
abbrev main_while0b_v77 : Ref sig .tc := ⟨.hbm, 145, rfl⟩
abbrev main_while0b_c_30 : Ref sig .tc := ⟨.hbm, 146, rfl⟩
abbrev main_while0b_c_31 : Ref sig .tc := ⟨.hbm, 147, rfl⟩
abbrev main_while0b_call5_v0 : Ref sig .tc := ⟨.hbm, 148, rfl⟩
abbrev main_while0b_call5_v1 : Ref sig .tc := ⟨.hbm, 149, rfl⟩
abbrev main_while0b_call5_v2 : Ref sig .tc := ⟨.hbm, 150, rfl⟩
abbrev main_while0b_call5_v3 : Ref sig .tc := ⟨.hbm, 151, rfl⟩
abbrev main_while0b_call5_v4 : Ref sig .tc := ⟨.hbm, 152, rfl⟩
abbrev main_while0b_v78 : Ref sig .tc := ⟨.hbm, 153, rfl⟩
abbrev main_while0b_v79 : Ref sig .tc := ⟨.hbm, 154, rfl⟩
abbrev main_while0b_v80 : Ref sig .tc := ⟨.hbm, 155, rfl⟩
abbrev main_while0b_v81 : Ref sig .tc := ⟨.hbm, 156, rfl⟩
abbrev main_while0b_v82 : Ref sig .tc := ⟨.hbm, 157, rfl⟩
abbrev main_while0b_v83 : Ref sig .tc := ⟨.hbm, 158, rfl⟩
abbrev main_while0b_v84 : Ref sig .tc := ⟨.hbm, 159, rfl⟩
abbrev main_while0b_v85 : Ref sig .tc := ⟨.hbm, 160, rfl⟩
abbrev main_while0b_c_32 : Ref sig .tc := ⟨.hbm, 161, rfl⟩
abbrev main_while0b_v86 : Ref sig .tc := ⟨.hbm, 162, rfl⟩
abbrev main_while0b_v87 : Ref sig .tc := ⟨.hbm, 163, rfl⟩
abbrev main_while0b_v88 : Ref sig .tc := ⟨.hbm, 164, rfl⟩
abbrev main_while0b_v89 : Ref sig .tc := ⟨.hbm, 165, rfl⟩
abbrev main_while0b_v90 : Ref sig .tc := ⟨.hbm, 166, rfl⟩
abbrev main_while0b_v91 : Ref sig .tc := ⟨.hbm, 167, rfl⟩
abbrev main_while0b_cst_33 : Ref sig .tc := ⟨.hbm, 168, rfl⟩
abbrev main_while0b_v92 : Ref sig .tc := ⟨.hbm, 169, rfl⟩
abbrev main_while0b_v93 : Ref sig .tc := ⟨.hbm, 170, rfl⟩
abbrev main_while0b_v94 : Ref sig .tc := ⟨.hbm, 171, rfl⟩
abbrev main_while0b_v95 : Ref sig .tc := ⟨.hbm, 172, rfl⟩
abbrev main_while0b_v96 : Ref sig .tc := ⟨.hbm, 173, rfl⟩
abbrev main_while0b_v97 : Ref sig .tc := ⟨.hbm, 174, rfl⟩
abbrev main_while0b_v98 : Ref sig .tc := ⟨.hbm, 175, rfl⟩
abbrev main_while0b_v99 : Ref sig .tc := ⟨.hbm, 176, rfl⟩
abbrev main_while0b_v100 : Ref sig .tc := ⟨.hbm, 177, rfl⟩
abbrev main_while0b_call6_cst : Ref sig .tc := ⟨.hbm, 178, rfl⟩
abbrev main_while0b_call6_v0 : Ref sig .tc := ⟨.hbm, 179, rfl⟩
abbrev main_while0b_v101 : Ref sig .tc := ⟨.hbm, 180, rfl⟩
abbrev main_while0b_v102 : Ref sig .tc := ⟨.hbm, 181, rfl⟩
abbrev main_while0b_v103 : Ref sig .tc := ⟨.hbm, 182, rfl⟩
abbrev main_while0b_v104 : Ref sig .tc := ⟨.hbm, 183, rfl⟩
abbrev main_while0b_v105 : Ref sig .tc := ⟨.hbm, 184, rfl⟩
abbrev main_while0b_v106 : Ref sig .tc := ⟨.hbm, 185, rfl⟩
abbrev main_while0b_v107 : Ref sig .tc := ⟨.hbm, 186, rfl⟩
abbrev main_while0b_call7_cst : Ref sig .tc := ⟨.hbm, 187, rfl⟩
abbrev main_while0b_call7_v0 : Ref sig .tc := ⟨.hbm, 188, rfl⟩
abbrev main_while0b_v108 : Ref sig .tc := ⟨.hbm, 189, rfl⟩
abbrev main_while0b_v109 : Ref sig .tc := ⟨.hbm, 190, rfl⟩
abbrev main_while0b_v110 : Ref sig .tc := ⟨.hbm, 191, rfl⟩
abbrev main_while0b_v111 : Ref sig .tc := ⟨.hbm, 192, rfl⟩
abbrev main_while0b_v112 : Ref sig .tc := ⟨.hbm, 193, rfl⟩
abbrev main_while0b_v113 : Ref sig .tc := ⟨.hbm, 194, rfl⟩
abbrev main_while0b_v114 : Ref sig .tc := ⟨.hbm, 195, rfl⟩
abbrev main_while0b_v115 : Ref sig .tc := ⟨.hbm, 196, rfl⟩
abbrev main_while0b_v116 : Ref sig .tc := ⟨.hbm, 197, rfl⟩
abbrev main_while0b_v117 : Ref sig .tc := ⟨.hbm, 198, rfl⟩
abbrev main_while0b_v118 : Ref sig .tc := ⟨.hbm, 199, rfl⟩
abbrev main_while0b_v119 : Ref sig .tc := ⟨.hbm, 200, rfl⟩
abbrev main_while0b_v120 : Ref sig .tc := ⟨.hbm, 201, rfl⟩
abbrev main_while0b_v121 : Ref sig .tc := ⟨.hbm, 202, rfl⟩
abbrev main_while0b_v122 : Ref sig .tc := ⟨.hbm, 203, rfl⟩
abbrev main_while0b_v123 : Ref sig .tc := ⟨.hbm, 204, rfl⟩
abbrev main_while0b_v124 : Ref sig .tc := ⟨.hbm, 205, rfl⟩
abbrev main_while0b_v125 : Ref sig .tc := ⟨.hbm, 206, rfl⟩
abbrev main_while0b_v126 : Ref sig .tc := ⟨.hbm, 207, rfl⟩
abbrev main_while0b_cst_34 : Ref sig .tc := ⟨.hbm, 208, rfl⟩
abbrev main_while0b_v127 : Ref sig .tc := ⟨.hbm, 209, rfl⟩
abbrev main_while0b_v128 : Ref sig .tc := ⟨.hbm, 210, rfl⟩
abbrev main_while0b_cst_35 : Ref sig .tc := ⟨.hbm, 211, rfl⟩
abbrev main_while0b_v129 : Ref sig .tc := ⟨.hbm, 212, rfl⟩
abbrev main_while0b_v130 : Ref sig .tc := ⟨.hbm, 213, rfl⟩
abbrev main_while0b_v131 : Ref sig .tc := ⟨.hbm, 214, rfl⟩
abbrev main_while0b_v132 : Ref sig .tc := ⟨.hbm, 215, rfl⟩
abbrev main_while0b_cst_36 : Ref sig .tc := ⟨.hbm, 216, rfl⟩
abbrev main_while0b_v133 : Ref sig .tc := ⟨.hbm, 217, rfl⟩
abbrev main_while0b_v134 : Ref sig .tc := ⟨.hbm, 218, rfl⟩
abbrev main_while0b_cst_37 : Ref sig .tc := ⟨.hbm, 219, rfl⟩
abbrev main_while0b_v135 : Ref sig .tc := ⟨.hbm, 220, rfl⟩
abbrev main_while0b_v136 : Ref sig .tc := ⟨.hbm, 221, rfl⟩
abbrev main_while0b_v137 : Ref sig .tc := ⟨.hbm, 222, rfl⟩
abbrev main_while0b_v138 : Ref sig .tc := ⟨.hbm, 223, rfl⟩
abbrev main_while0b_v139 : Ref sig .tc := ⟨.hbm, 224, rfl⟩
abbrev main_while0b_cst_38 : Ref sig .tc := ⟨.hbm, 225, rfl⟩
abbrev main_while0b_v140 : Ref sig .tc := ⟨.hbm, 226, rfl⟩
abbrev main_while0b_v141 : Ref sig .tc := ⟨.hbm, 227, rfl⟩
abbrev main_while0b_cst_39 : Ref sig .tc := ⟨.hbm, 228, rfl⟩
abbrev main_while0b_v142 : Ref sig .tc := ⟨.hbm, 229, rfl⟩
abbrev main_while0b_v143 : Ref sig .tc := ⟨.hbm, 230, rfl⟩
abbrev main_while0b_v144 : Ref sig .tc := ⟨.hbm, 231, rfl⟩
abbrev main_while0b_v145 : Ref sig .tc := ⟨.hbm, 232, rfl⟩
abbrev main_while0b_v146 : Ref sig .tc := ⟨.hbm, 233, rfl⟩
abbrev main_while0b_v147 : Ref sig .tc := ⟨.hbm, 234, rfl⟩
abbrev main_while0b_v148 : Ref sig .tc := ⟨.hbm, 235, rfl⟩
abbrev main_while0b_v149 : Ref sig .tc := ⟨.hbm, 236, rfl⟩
abbrev main_while0b_c_40 : Ref sig .tc := ⟨.hbm, 237, rfl⟩
abbrev main_while0b_v150 : Ref sig .tc := ⟨.hbm, 238, rfl⟩
abbrev main_while0b_v151 : Ref sig .tc := ⟨.hbm, 239, rfl⟩
abbrev main_while0b_v152 : Ref sig .tc := ⟨.hbm, 240, rfl⟩
abbrev main_while0b_v153 : Ref sig .tc := ⟨.hbm, 241, rfl⟩
abbrev main_while0b_v154 : Ref sig .tc := ⟨.hbm, 242, rfl⟩
abbrev main_while0b_call8_v0 : Ref sig .tc := ⟨.hbm, 243, rfl⟩
abbrev main_while0b_call8_v1 : Ref sig .tc := ⟨.hbm, 244, rfl⟩
abbrev main_while0b_v155 : Ref sig .tc := ⟨.hbm, 245, rfl⟩
abbrev main_while0b_v156 : Ref sig .tc := ⟨.hbm, 246, rfl⟩
abbrev main_while0b_call9_v0 : Ref sig .tc := ⟨.hbm, 247, rfl⟩
abbrev main_while0b_call9_v1 : Ref sig .tc := ⟨.hbm, 248, rfl⟩
abbrev main_while0b_v157 : Ref sig .tc := ⟨.hbm, 249, rfl⟩
abbrev main_while0b_c_41 : Ref sig .tc := ⟨.hbm, 250, rfl⟩
abbrev main_while0b_v158 : Ref sig .tc := ⟨.hbm, 251, rfl⟩

abbrev nD : Nat := 1
abbrev τ : Topo := Topo.v7x

variable {F : FTy → Type} [FloatOps F]

abbrev main_while0_count : Scf.Loop 32 := ⟨0#32, 20#32, 1#32⟩
-- ==== Proof.Words.lean ====
/-
  The counted loops over a word read from the data: the loop over pairs of ranks runs from 0 by ones, and the one after it,
  over what a division by one leaves, runs from its own bound to itself.
-/
module

public import Idealize.ShloMosaic.Lib.Affine
public import Idealize.ShloMosaic.Lib.Affine.Words

@[expose] public section

namespace Cert.Proof.Words

open Idealize.ShloMosaic

/-- A loop from 0 by ones has a meaning whatever word bounds it: its counter never reaches 2³¹. -/
theorem ok_from_zero (u : BitVec 32) : Scf.OK 0#32 u 1#32 := by
  have h := Affine.word_range u
  refine Affine.ok (Affine.ofNat (e := 0) 0 (by omega)) (Affine.word u) (Affine.ofNat (e := 1) 1 (by omega)) ?_
  omega

/-- A loop from a word to the same word has a meaning, -/
theorem ok_self (u : BitVec 32) : Scf.OK u u 1#32 := by
  have h := Affine.word_range u
  refine Affine.ok (Affine.word u) (Affine.word u) (Affine.ofNat (e := 1) 1 (by omega)) ?_
  omega

/-- and runs no trip. -/
theorem trips_self (u : BitVec 32) : Scf.trips u u 1#32 = 0 :=
  Affine.trips_eq (Affine.word u) (Affine.word u) (Affine.ofNat (e := 1) 1 (by omega)) 0 (by omega)

/-- A word divided by one and multiplied by one is that word. -/
theorem div_one_mul_one (u : BitVec 32) : Scalar.muli (Scalar.divsi u 1#32) 1#32 = u := by
  have h := Affine.word_range u
  have h1 : Affine.IsInt 1#32 (1) := Affine.ofNat 1 (by omega)
  exact Affine.eq_of_isInt (Affine.muli (Affine.divsi_one (Affine.word u) h1 ⟨rfl, rfl⟩) h1 (e := u.toInt) (by omega)) (Affine.word u)

end Cert.Proof.Words
-- ==== Proof.KernelIdealBody.lean ====
/-
  The kernel's body, run (`KernelIdeal`): one trip of the loop over the past steps and one of the loop over the predicted steps as
  functions of what the loops carry, the invariant of each loop, and the body's triple with every output window's contents.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.Words

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Proof.Words

/-! ## The conditions the body assumes -/

/-- The two inner loops of a past step have a meaning whatever the word of ranks read. -/
theorem chk1_all (v : BitVec 32) : k0_chk1 v := by
  refine ⟨ok_from_zero _, ?_⟩
  show Scf.OK _ _ _
  unfold k0_t3_loop
  dsimp only
  rw [div_one_mul_one]
  exact ok_self _

/-- The two inner loops of a predicted step likewise. -/
theorem chk2_all (v : BitVec 32) : k0_chk2 v := by
  refine ⟨ok_from_zero _, ?_⟩
  show Scf.OK _ _ _
  unfold k0_t6_loop
  dsimp only
  rw [div_one_mul_one]
  exact ok_self _

/-! ## One step's values -/

/-- The values read once before the loops: the table that ranks neighbours, the mask of the scene, the weights. -/
structure Wts (F : FTy → Type) [FloatOps F] where
  v10 : FVec F S512x512 .bf16
  v17 : IVec S512x512 1
  v20 : FVec F S2x64 .bf16
  v22 : FVec F S1x64 .f32
  v25 : FVec F S512x64 .bf16
  v27 : FVec F S1x64 .f32
  v30 : FVec F S128x512 .bf16
  v33 : FVec F S128x512 .bf16
  v35 : FVec F S1x512 .f32

/-- The pooled hidden states of a past step, by cell and row: the inner loops' total. `p`, `q` are the positions by row and
    by column. -/
def encAcc (W : Wts F) (p : Vec F S1x512x2 .f32) (q : Vec F S1x2x512 .f32) (ht : FVec F S512x128 .f32) : FVec F S2048x128 .f32 :=
  let n : BitVec 32 := Scalar.fptosi 32 (k0_pay21 W.v10 (k0_pay16 W.v17 p q) (k0_pay17 p q) (k0_pay18 p q) (k0_pay19 W.v17 p q))
  Scf.fold (fun (k : Fin (k0_t3_loop n).trips) a => k0_pay26 (k0_pay20 W.v10 (k0_pay16 W.v17 p q) (k0_pay17 p q) (k0_pay18 p q) (k0_pay19 W.v17 p q)) n (k0_pay22 ht) (k0_pay23 W.v10 (k0_pay16 W.v17 p q) (k0_pay17 p q) (k0_pay18 p q) (k0_pay19 W.v17 p q))
      (Scalar.addi n 1#32) 2#32 (Scalar.divsi (Scalar.addi n 1#32) 2#32)
      (Scalar.subi (Scalar.extui (Scalar.cmpi .sgt (Scalar.addi n 1#32) 0#32)) (Scalar.extui (Scalar.cmpi .slt (Scalar.addi n 1#32) 0#32))) 0#32 k a)
    (Scf.fold (fun (k : Fin (k0_t2_loop n).trips) a => k0_pay25 (k0_pay20 W.v10 (k0_pay16 W.v17 p q) (k0_pay17 p q) (k0_pay18 p q) (k0_pay19 W.v17 p q)) n (k0_pay22 ht) (k0_pay23 W.v10 (k0_pay16 W.v17 p q) (k0_pay17 p q) (k0_pay18 p q) (k0_pay19 W.v17 p q)) k a) (k0_pay24 (F := F)))

/-- A past step: the hidden and cell states after it, from the positions, the displacements `r` and the states before. -/
def encStep (W : Wts F) (p : Vec F S1x512x2 .f32) (q : Vec F S1x2x512 .f32) (r : Vec F S1x512x2 .f32) (s : FVec F S512x128 .f32 × FVec F S512x128 .f32) : FVec F S512x128 .f32 × FVec F S512x128 .f32 :=
  (k0_pay4 s.2 (k0_pay27 W.v20 W.v22 W.v25 W.v27 W.v30 W.v33 W.v35 s.1 (k0_pay13 r) (encAcc W p q s.1))
      (k0_pay28 W.v20 W.v22 W.v25 W.v27 W.v30 W.v33 W.v35 s.1 (k0_pay13 r) (encAcc W p q s.1))
      (k0_pay29 W.v20 W.v22 W.v25 W.v27 W.v30 W.v33 W.v35 s.1 (k0_pay13 r) (encAcc W p q s.1)),
    k0_pay3 s.2 (k0_pay27 W.v20 W.v22 W.v25 W.v27 W.v30 W.v33 W.v35 s.1 (k0_pay13 r) (encAcc W p q s.1))
      (k0_pay28 W.v20 W.v22 W.v25 W.v27 W.v30 W.v33 W.v35 s.1 (k0_pay13 r) (encAcc W p q s.1))
      (k0_pay29 W.v20 W.v22 W.v25 W.v27 W.v30 W.v33 W.v35 s.1 (k0_pay13 r) (encAcc W p q s.1)))

/-- The pooled hidden states of a predicted step. `pp` is the position before it. -/
def decAcc (W : Wts F) (v5 : FVec F S512x512 .f32) (v46 : Vec F S128x5 .f32) (v49 : Vec F S1x5 .f32) (ht : FVec F S512x128 .f32) (pp : FVec F S512x2 .f32) : FVec F S2048x128 .f32 :=
  let n : BitVec 32 := Scalar.fptosi 32 (k0_pay40 W.v10 W.v17 (k0_pay36 v5 (k0_pay5 v46) (k0_pay6 v49) ht pp) (k0_pay37 v5 (k0_pay5 v46) (k0_pay6 v49) ht pp) (k0_pay38 v5 (k0_pay5 v46) (k0_pay6 v49) ht pp))
  Scf.fold (fun (k : Fin (k0_t6_loop n).trips) a => k0_pay46 (k0_pay39 W.v10 W.v17 (k0_pay36 v5 (k0_pay5 v46) (k0_pay6 v49) ht pp) (k0_pay37 v5 (k0_pay5 v46) (k0_pay6 v49) ht pp) (k0_pay38 v5 (k0_pay5 v46) (k0_pay6 v49) ht pp)) n (k0_pay41 ht) (k0_pay42 W.v10 W.v17 (k0_pay36 v5 (k0_pay5 v46) (k0_pay6 v49) ht pp) (k0_pay37 v5 (k0_pay5 v46) (k0_pay6 v49) ht pp) (k0_pay38 v5 (k0_pay5 v46) (k0_pay6 v49) ht pp)) k a)
    (Scf.fold (fun (k : Fin (k0_t5_loop n).trips) a => k0_pay45 (k0_pay39 W.v10 W.v17 (k0_pay36 v5 (k0_pay5 v46) (k0_pay6 v49) ht pp) (k0_pay37 v5 (k0_pay5 v46) (k0_pay6 v49) ht pp) (k0_pay38 v5 (k0_pay5 v46) (k0_pay6 v49) ht pp)) n (k0_pay41 ht) (k0_pay42 W.v10 W.v17 (k0_pay36 v5 (k0_pay5 v46) (k0_pay6 v49) ht pp) (k0_pay37 v5 (k0_pay5 v46) (k0_pay6 v49) ht pp) (k0_pay38 v5 (k0_pay5 v46) (k0_pay6 v49) ht pp)) k a) (k0_pay44 (F := F)))

/-- A predicted step: the states and the position after it. -/
def decStep (W : Wts F) (v5 : FVec F S512x512 .f32) (v46 : Vec F S128x5 .f32) (v49 : Vec F S1x5 .f32) (s : FVec F S512x128 .f32 × FVec F S512x128 .f32 × FVec F S512x2 .f32) : FVec F S512x128 .f32 × FVec F S512x128 .f32 × FVec F S512x2 .f32 :=
  (k0_pay10 W.v22 W.v30 W.v33 W.v35 s.1 s.2.1 (k0_pay47 W.v25 W.v27 (decAcc W v5 v46 v49 s.1 s.2.2)) (k0_pay48 W.v20 (k0_pay32 (k0_pay5 v46) (k0_pay6 v49) s.1)),
    k0_pay9 W.v22 W.v30 W.v33 W.v35 s.1 s.2.1 (k0_pay47 W.v25 W.v27 (decAcc W v5 v46 v49 s.1 s.2.2)) (k0_pay48 W.v20 (k0_pay32 (k0_pay5 v46) (k0_pay6 v49) s.1)),
    k0_pay33 (k0_pay5 v46) (k0_pay6 v49) s.1 s.2.2)

/-! ## The blocks a trip names -/

/-- Past step `k`'s block of the positions, agent by coordinate, -/
abbrev rPos (k : Fin k0_t1_loop.trips) : Rect S8x512x2 := Rect.unit (s := S8x512x2) (k0_off1 k) S1x512x2.size (k0_off1_inb k)
/-- and of the positions, coordinate by agent. -/
abbrev rPosT (k : Fin k0_t1_loop.trips) : Rect S8x2x512 := Rect.unit (s := S8x2x512) (k0_off2 k) S1x2x512.size (k0_off2_inb k)
/-- Predicted step `k`'s block of the outputs, -/
abbrev rOut (k : Fin k0_t4_loop.trips) : Rect S12x512x5 := Rect.unit (s := S12x512x5) (k0_off3 k) S1x512x5.size (k0_off3_inb k)
/-- and of the positions. -/
abbrev rTraj (k : Fin k0_t4_loop.trips) : Rect S12x512x2 := Rect.unit (s := S12x512x2) (k0_off4 k) S1x512x2.size (k0_off4_inb k)

/-- The states before past step `n`. -/
def encSeq (W : Wts F) (x0 : Vec F S8x2x512 .f32) (x1 x2 : Vec F S8x512x2 .f32) (init : FVec F S512x128 .f32 × FVec F S512x128 .f32) : ℕ → FVec F S512x128 .f32 × FVec F S512x128 .f32
  | 0 => init
  | n + 1 => if h : n < k0_t1_loop.trips then
      encStep W (View.ld x1 (rPos ⟨n, h⟩)) (View.ld x0 (rPosT ⟨n, h⟩)) (View.ld x2 (rPos ⟨n, h⟩)) (encSeq W x0 x1 x2 init n)
    else encSeq W x0 x1 x2 init n

/-- The states and the position before predicted step `n`. -/
def decSeq (W : Wts F) (v5 : FVec F S512x512 .f32) (v46 : Vec F S128x5 .f32) (v49 : Vec F S1x5 .f32) (init : FVec F S512x128 .f32 × FVec F S512x128 .f32 × FVec F S512x2 .f32) : ℕ → FVec F S512x128 .f32 × FVec F S512x128 .f32 × FVec F S512x2 .f32
  | 0 => init
  | n + 1 => decStep W v5 v46 v49 (decSeq W v5 v46 v49 init n)

/-- What the predicted steps before `n` stored into the outputs' window, last first. -/
def outPcs (W : Wts F) (v5 : FVec F S512x512 .f32) (v46 : Vec F S128x5 .f32) (v49 : Vec F S1x5 .f32) (init : FVec F S512x128 .f32 × FVec F S512x128 .f32 × FVec F S512x2 .f32) : ℕ → List (View.Piece (Elt F) S12x512x5 .f32)
  | 0 => []
  | n + 1 => if h : n < k0_t4_loop.trips then
      ⟨rOut ⟨n, h⟩, k0_pay31 (k0_pay5 v46) (k0_pay6 v49) (decSeq W v5 v46 v49 init n).1⟩ :: outPcs W v5 v46 v49 init n
    else outPcs W v5 v46 v49 init n

/-- What they stored into the positions' window. -/
def trajPcs (W : Wts F) (v5 : FVec F S512x512 .f32) (v46 : Vec F S128x5 .f32) (v49 : Vec F S1x5 .f32) (init : FVec F S512x128 .f32 × FVec F S512x128 .f32 × FVec F S512x2 .f32) : ℕ → List (View.Piece (Elt F) S12x512x2 .f32)
  | 0 => []
  | n + 1 => if h : n < k0_t4_loop.trips then
      ⟨rTraj ⟨n, h⟩, k0_pay34 (k0_pay5 v46) (k0_pay6 v49) (decSeq W v5 v46 v49 init n).1 (decSeq W v5 v46 v49 init n).2.2⟩ :: trajPcs W v5 v46 v49 init n
    else trajPcs W v5 v46 v49 init n

/-! ## One trip of each loop, run -/

section Trip
variable (c : Dev nD) (arg0 : Memref sig .tc .vmem S8x2x512 .f32) (harg0 : arg0.IsWhole) (arg1 : Memref sig .tc .vmem S8x512x2 .f32) (harg1 : arg1.IsWhole) (arg2 : Memref sig .tc .vmem S8x512x2 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S2x64 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x5 .f32) (harg14 : arg14.IsWhole) (arg15 : Memref sig .tc .vmem S1x5 .f32) (harg15 : arg15.IsWhole) (arg16 : Memref sig .tc .vmem S12x512x5 .f32) (harg16 : arg16.IsWhole) (arg17 : Memref sig .tc .vmem S12x512x2 .f32) (harg17 : arg17.IsWhole)
  (v10 : FVec F S512x512 .bf16) (v17 : IVec S512x512 1) (v20 : FVec F S2x64 .bf16) (v22 : FVec F S1x64 .f32) (v25 : FVec F S512x64 .bf16) (v27 : FVec F S1x64 .f32) (v30 : FVec F S128x512 .bf16) (v33 : FVec F S128x512 .bf16) (v35 : FVec F S1x512 .f32) (v5 : FVec F S512x512 .f32) (v46 : Vec F S128x5 .f32) (v49 : Vec F S1x5 .f32)

/-- What a past step's trip touches: the three windows it reads. -/
abbrev EncRes (f0 : Buf (Elt F) (arg0.view.loc (c : Thread nD τ))) (f1 : Buf (Elt F) (arg1.view.loc (c : Thread nD τ))) (f2 : Buf (Elt F) (arg2.view.loc (c : Thread nD τ))) : sProp 𝕄 :=
  iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2))

/-- A past step's trip yields `encStep` of the windows' blocks. -/
theorem encTrip (f0 : Buf (Elt F) (arg0.view.loc (c : Thread nD τ))) (f1 : Buf (Elt F) (arg1.view.loc (c : Thread nD τ))) (f2 : Buf (Elt F) (arg2.view.loc (c : Thread nD τ))) (k : Fin k0_t1_loop.trips) (acc : FVec F S512x128 .f32 × FVec F S512x128 .f32) :
    EncRes c arg0 arg1 arg2 f0 f1 f2 ⊢ wp frame (wpE (defs₀ (F := F)) Variants.none (c : Thread nD τ) none) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v10 v17 v20 v22 v25 v27 v30 v33 v35 k acc)
      (fun r => iprop(EncRes c arg0 arg1 arg2 f0 f1 f2 ∗ ⌜r = encStep ⟨v10, v17, v20, v22, v25, v27, v30, v33, v35⟩ (View.ld (arg1.view.read (Elt F) f1) (rPos k)) (View.ld (arg0.view.read (Elt F) f0) (rPosT k)) (View.ld (arg2.view.read (Elt F) f2) (rPos k)) acc⌝)) := by
  obtain ⟨ht, ct⟩ := acc
  unfold k0_t1_body
  iintro ⟨H0, H1, H2⟩
  sl_exec (disch := exact chk1_all _)
  sl_step
  isplitl [H0 H1 H2]
  · isplitl [H0]; · iexact H0
    isplitl [H1]; · iexact H1
    iexact H2
  · ipureintro; rfl

/-- What a predicted step's trip touches: the two windows it stores into. -/
abbrev DecRes (g16 : Buf (Elt F) (arg16.view.loc (c : Thread nD τ))) (g17 : Buf (Elt F) (arg17.view.loc (c : Thread nD τ))) : sProp 𝕄 :=
  iprop((arg16.view.loc (c : Thread nD τ) ↦[arg16.view.set]{fullShare} g16) ∗ (arg17.view.loc (c : Thread nD τ) ↦[arg17.view.set]{fullShare} g17))

/-- A predicted step's trip stores its output and its position and yields `decStep`. -/
theorem decTrip (g16 : Buf (Elt F) (arg16.view.loc (c : Thread nD τ))) (g17 : Buf (Elt F) (arg17.view.loc (c : Thread nD τ))) (k : Fin k0_t4_loop.trips) (acc : FVec F S512x128 .f32 × FVec F S512x128 .f32 × FVec F S512x2 .f32) :
    DecRes c arg16 arg17 g16 g17 ⊢ wp frame (wpE (defs₀ (F := F)) Variants.none (c : Thread nD τ) none) Set.univ (k0_t4_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v10 v17 v20 v22 v25 v27 v30 v33 v35 v46 v49 k acc)
      (fun r => iprop(DecRes c arg16 arg17 (arg16.view.writes (Elt F) g16 [⟨rOut k, k0_pay31 (k0_pay5 v46) (k0_pay6 v49) acc.1⟩])
          (arg17.view.writes (Elt F) g17 [⟨rTraj k, k0_pay34 (k0_pay5 v46) (k0_pay6 v49) acc.1 acc.2.2⟩])
        ∗ ⌜r = decStep ⟨v10, v17, v20, v22, v25, v27, v30, v33, v35⟩ v5 v46 v49 acc⌝)) := by
  obtain ⟨ht, ct, pp⟩ := acc
  unfold k0_t4_body
  iintro ⟨H0, H1⟩
  sl_exec (disch := exact chk2_all _)
  sl_step
  isplitl [H0 H1]
  · isplitl [H0]; · iexact H0
    iexact H1
  · ipureintro; rfl

end Trip

/-! ## The loops' invariants -/

section Loops
variable (c : Dev nD) (arg0 : Memref sig .tc .vmem S8x2x512 .f32) (harg0 : arg0.IsWhole) (arg1 : Memref sig .tc .vmem S8x512x2 .f32) (harg1 : arg1.IsWhole) (arg2 : Memref sig .tc .vmem S8x512x2 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S2x64 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x5 .f32) (harg14 : arg14.IsWhole) (arg15 : Memref sig .tc .vmem S1x5 .f32) (harg15 : arg15.IsWhole) (arg16 : Memref sig .tc .vmem S12x512x5 .f32) (harg16 : arg16.IsWhole) (arg17 : Memref sig .tc .vmem S12x512x2 .f32) (harg17 : arg17.IsWhole)
  (v10 : FVec F S512x512 .bf16) (v17 : IVec S512x512 1) (v20 : FVec F S2x64 .bf16) (v22 : FVec F S1x64 .f32) (v25 : FVec F S512x64 .bf16) (v27 : FVec F S1x64 .f32) (v30 : FVec F S128x512 .bf16) (v33 : FVec F S128x512 .bf16) (v35 : FVec F S1x512 .f32) (v5 : FVec F S512x512 .f32) (v46 : Vec F S128x5 .f32) (v49 : Vec F S1x5 .f32)

set_option warn.classDefReducibility false in
/-- Before past step `k` the windows are as found and the loop carries `encSeq … k`. -/
@[sl_loop] def loopInv_k0_t1 (f0 : Buf (Elt F) (arg0.view.loc (c : Thread nD τ))) (f1 : Buf (Elt F) (arg1.view.loc (c : Thread nD τ))) (f2 : Buf (Elt F) (arg2.view.loc (c : Thread nD τ))) (init : FVec F S512x128 .f32 × FVec F S512x128 .f32) :
    LoopInvTy_k0_t1 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v10 v17 v20 v22 v25 v27 v30 v33 v35 init where
  inv k acc := iprop(EncRes c arg0 arg1 arg2 f0 f1 f2 ∗ ⌜acc = encSeq ⟨v10, v17, v20, v22, v25, v27, v30, v33, v35⟩ (arg0.view.read (Elt F) f0) (arg1.view.read (Elt F) f1) (arg2.view.read (Elt F) f2) init k⌝)
  step k acc := by
    iintro ⟨H, %hacc⟩
    iapply (wp_wand_r Idealize.ShloMosaic.frame (wpE (defs₀ (F := F)) Variants.none (c : Thread nD τ) none) Set.univ)
    isplitl [H]
    · iapply (encTrip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v10 v17 v20 v22 v25 v27 v30 v33 v35 f0 f1 f2 k acc); iexact H
    · iintro %r ⟨H, %hr⟩
      isplitl [H]; · iexact H
      ipureintro
      rw [hr, encSeq, dif_pos k.isLt, hacc]

set_option warn.classDefReducibility false in
/-- Before predicted step `k` the output windows hold the earlier steps' rows and the loop carries `decSeq … k`. -/
@[sl_loop] def loopInv_k0_t4 (g16 : Buf (Elt F) (arg16.view.loc (c : Thread nD τ))) (g17 : Buf (Elt F) (arg17.view.loc (c : Thread nD τ))) (init : FVec F S512x128 .f32 × FVec F S512x128 .f32 × FVec F S512x2 .f32) :
    LoopInvTy_k0_t4 (F := F) Unit ℕ (UR sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v10 v17 v20 v22 v25 v27 v30 v33 v35 v46 v49 init where
  inv k acc := iprop(DecRes c arg16 arg17
      (arg16.view.writes (Elt F) g16 (outPcs ⟨v10, v17, v20, v22, v25, v27, v30, v33, v35⟩ v5 v46 v49 init k))
      (arg17.view.writes (Elt F) g17 (trajPcs ⟨v10, v17, v20, v22, v25, v27, v30, v33, v35⟩ v5 v46 v49 init k))
    ∗ ⌜acc = decSeq ⟨v10, v17, v20, v22, v25, v27, v30, v33, v35⟩ v5 v46 v49 init k⌝)
  step k acc := by
    iintro ⟨H, %hacc⟩
    iapply (wp_wand_r Idealize.ShloMosaic.frame (wpE (defs₀ (F := F)) Variants.none (c : Thread nD τ) none) Set.univ)
    isplitl [H]
    · iapply (decTrip c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v10 v17 v20 v22 v25 v27 v30 v33 v35 v5 v46 v49 _ _ k acc); iexact H
    · iintro %r ⟨H, %hr⟩
      rw [hr, hacc, outPcs, trajPcs, dif_pos k.isLt, dif_pos k.isLt, ← List.singleton_append, ← List.singleton_append (l := trajPcs _ _ _ _ _ _), View.writes_append, View.writes_append]
      isplitl [H]; · iexact H
      ipureintro; rfl

end Loops

/-! ## The body -/

/-- The sixteen input windows' contents. -/
structure Ins (F : FTy → Type) [FloatOps F] where
  x0 : Vec F S8x2x512 .f32
  x1 : Vec F S8x512x2 .f32
  x2 : Vec F S8x512x2 .f32
  x3 : Vec F S512x1 .i32
  x4 : Vec F S1x512 .i32
  x5 : Vec F S2x64 .f32
  x6 : Vec F S1x64 .f32
  x7 : Vec F S512x64 .f32
  x8 : Vec F S1x64 .f32
  x9 : Vec F S128x512 .f32
  x10 : Vec F S128x512 .f32
  x11 : Vec F S1x512 .f32
  x12 : Vec F S1x128 .f32
  x13 : Vec F S1x128 .f32
  x14 : Vec F S128x5 .f32
  x15 : Vec F S1x5 .f32

/-- The values read once. -/
def Ins.wts (I : Ins F) : Wts F where
  v10 := k0_pay51
  v17 := k0_pay52 (View.ld I.x3 (Rect.unit (s := S512x1) ![0, 0] S512x1.size inb_S512x1_S512x1_0_0)) (View.ld I.x4 (Rect.unit (s := S1x512) ![0, 0] S1x512.size inb_S1x512_S1x512_0_0))
  v20 := k0_pay53 (View.ld I.x5 (Rect.unit (s := S2x64) ![0, 0] S2x64.size inb_S2x64_S2x64_0_0))
  v22 := k0_pay54 (View.ld I.x6 (Rect.unit (s := S1x64) ![0, 0] S1x64.size inb_S1x64_S1x64_0_0))
  v25 := k0_pay55 (View.ld I.x7 (Rect.unit (s := S512x64) ![0, 0] S512x64.size inb_S512x64_S512x64_0_0))
  v27 := k0_pay56 (View.ld I.x8 (Rect.unit (s := S1x64) ![0, 0] S1x64.size inb_S1x64_S1x64_0_0))
  v30 := k0_pay57 (View.ld I.x9 (Rect.unit (s := S128x512) ![0, 0] S128x512.size inb_S128x512_S128x512_0_0))
  v33 := k0_pay58 (View.ld I.x10 (Rect.unit (s := S128x512) ![0, 0] S128x512.size inb_S128x512_S128x512_0_0))
  v35 := k0_pay59 (View.ld I.x11 (Rect.unit (s := S1x512) ![0, 0] S1x512.size inb_S1x512_S1x512_0_0))

/-- The states the past steps start from. -/
def Ins.init (I : Ins F) : FVec F S512x128 .f32 × FVec F S512x128 .f32 :=
  (k0_pay1 (View.ld I.x12 (Rect.unit (s := S1x128) ![0, 0] S1x128.size inb_S1x128_S1x128_0_0)), k0_pay2 (View.ld I.x13 (Rect.unit (s := S1x128) ![0, 0] S1x128.size inb_S1x128_S1x128_0_0)))

/-- The states after `n` past steps. -/
def Ins.enc (I : Ins F) (n : ℕ) : FVec F S512x128 .f32 × FVec F S512x128 .f32 := encSeq I.wts I.x0 I.x1 I.x2 I.init n

/-- The prediction's weights and bias. -/
def Ins.v46 (I : Ins F) : Vec F S128x5 .f32 := View.ld I.x14 (Rect.unit (s := S128x5) ![0, 0] S128x5.size inb_S128x5_S128x5_0_0)
/-- The prediction's bias. -/
def Ins.v49 (I : Ins F) : Vec F S1x5 .f32 := View.ld I.x15 (Rect.unit (s := S1x5) ![0, 0] S1x5.size inb_S1x5_S1x5_0_0)

/-- What the predicted steps start from: the states after the last past step and the last past position. -/
def Ins.init' (I : Ins F) : FVec F S512x128 .f32 × FVec F S512x128 .f32 × FVec F S512x2 .f32 :=
  ((I.enc k0_t1_loop.trips).1, (I.enc k0_t1_loop.trips).2, k0_pay7 (View.ld I.x1 (Rect.unit (s := S8x512x2) ![7, 0, 0] S1x512x2.size inb_S8x512x2_S1x512x2_7_0_0)))

/-- The states and the position before predicted step `n`. -/
def Ins.dec (I : Ins F) (n : ℕ) : FVec F S512x128 .f32 × FVec F S512x128 .f32 × FVec F S512x2 .f32 := decSeq I.wts k0_pay50 I.v46 I.v49 I.init' n

/-- What the body leaves in the two output windows. -/
def Ins.outPcs (I : Ins F) : List (View.Piece (Elt F) S12x512x5 .f32) := KernelIdeal.outPcs I.wts k0_pay50 I.v46 I.v49 I.init' k0_t4_loop.trips
/-- The pieces stored into the positions' window. -/
def Ins.trajPcs (I : Ins F) : List (View.Piece (Elt F) S12x512x2 .f32) := KernelIdeal.trajPcs I.wts k0_pay50 I.v46 I.v49 I.init' k0_t4_loop.trips
/-- The outputs' window after the body, -/
def Ins.out (I : Ins F) : Vec F S12x512x5 .f32 := View.canon I.outPcs
/-- and the positions'. -/
def Ins.traj (I : Ins F) : Vec F S12x512x2 .f32 := View.canon I.trajPcs

/-- There are twelve predicted steps -/
theorem t4_trips : k0_t4_loop.trips = 12 := by decide +kernel
/-- and eight past ones. -/
theorem t1_trips : k0_t1_loop.trips = 8 := by decide +kernel

/-- Step `a`'s block of the outputs is the one whose first coordinate is `a`. -/
theorem mem_rOut (y : S12x512x5.Idx) : ((y 0).val < k0_t4_loop.trips) := by
  rw [t4_trips]; exact (y 0).isLt

/-- The twelve stores cover the outputs' window, -/
theorem outPcs_covered (I : Ins F) (y : S12x512x5.Idx) : ∃ pc ∈ I.outPcs, y ∈ pc.1.set := by
  have aux : ∀ n, (y 0).val < n → n ≤ k0_t4_loop.trips → ∃ pc ∈ KernelIdeal.outPcs I.wts k0_pay50 I.v46 I.v49 I.init' n, y ∈ pc.1.set := by
    intro n
    induction n with
    | zero => intro h; exact absurd h (Nat.not_lt_zero _)
    | succ n ih =>
      intro h hn
      rw [KernelIdeal.outPcs, dif_pos (Nat.lt_of_succ_le hn)]
      rcases Nat.lt_succ_iff_lt_or_eq.mp h with h' | h'
      · obtain ⟨pc, hm, hy⟩ := ih h' (Nat.le_of_succ_le hn)
        exact ⟨pc, List.mem_cons_of_mem _ hm, hy⟩
      · refine ⟨_, List.mem_cons_self, ?_⟩
        rw [Rect.mem_set_unit]
        intro a
        rw [k0_off3_eq]
        match a with
        | ⟨0, _⟩ => exact ⟨h'.ge, by show (y 0).val < n + 1; omega⟩
        | ⟨1, _⟩ => exact ⟨Nat.zero_le _, by show (y 1).val < 0 + 512; have := (y 1).isLt; exact (Nat.zero_add 512).symm ▸ this⟩
        | ⟨2, _⟩ => exact ⟨Nat.zero_le _, by show (y 2).val < 0 + 5; have := (y 2).isLt; exact (Nat.zero_add 5).symm ▸ this⟩
  exact aux _ (mem_rOut y) le_rfl

/-- and the positions'. -/
theorem trajPcs_covered (I : Ins F) (y : S12x512x2.Idx) : ∃ pc ∈ I.trajPcs, y ∈ pc.1.set := by
  have aux : ∀ n, (y 0).val < n → n ≤ k0_t4_loop.trips → ∃ pc ∈ KernelIdeal.trajPcs I.wts k0_pay50 I.v46 I.v49 I.init' n, y ∈ pc.1.set := by
    intro n
    induction n with
    | zero => intro h; exact absurd h (Nat.not_lt_zero _)
    | succ n ih =>
      intro h hn
      rw [KernelIdeal.trajPcs, dif_pos (Nat.lt_of_succ_le hn)]
      rcases Nat.lt_succ_iff_lt_or_eq.mp h with h' | h'
      · obtain ⟨pc, hm, hy⟩ := ih h' (Nat.le_of_succ_le hn)
        exact ⟨pc, List.mem_cons_of_mem _ hm, hy⟩
      · refine ⟨_, List.mem_cons_self, ?_⟩
        rw [Rect.mem_set_unit]
        intro a
        rw [k0_off4_eq]
        match a with
        | ⟨0, _⟩ => exact ⟨h'.ge, by show (y 0).val < n + 1; omega⟩
        | ⟨1, _⟩ => exact ⟨Nat.zero_le _, by show (y 1).val < 0 + 512; have := (y 1).isLt; exact (Nat.zero_add 512).symm ▸ this⟩
        | ⟨2, _⟩ => exact ⟨Nat.zero_le _, by show (y 2).val < 0 + 2; have := (y 2).isLt; exact (Nat.zero_add 2).symm ▸ this⟩
  have h0 : (y 0).val < k0_t4_loop.trips := by rw [t4_trips]; exact (y 0).isLt
  exact aux _ h0 le_rfl

set_option maxHeartbeats 4000000 in
/-- The body on whole windows, the inputs' at `I` and the outputs' at anything, runs and leaves the inputs' as they were
    and the outputs' at `I.out`, `I.traj`. -/
theorem sound_kernel (c : Dev nD) (arg0 : Memref sig .tc .vmem S8x2x512 .f32) (harg0 : arg0.IsWhole) (arg1 : Memref sig .tc .vmem S8x512x2 .f32) (harg1 : arg1.IsWhole) (arg2 : Memref sig .tc .vmem S8x512x2 .f32) (harg2 : arg2.IsWhole) (arg3 : Memref sig .tc .vmem S512x1 .i32) (harg3 : arg3.IsWhole) (arg4 : Memref sig .tc .vmem S1x512 .i32) (harg4 : arg4.IsWhole) (arg5 : Memref sig .tc .vmem S2x64 .f32) (harg5 : arg5.IsWhole) (arg6 : Memref sig .tc .vmem S1x64 .f32) (harg6 : arg6.IsWhole) (arg7 : Memref sig .tc .vmem S512x64 .f32) (harg7 : arg7.IsWhole) (arg8 : Memref sig .tc .vmem S1x64 .f32) (harg8 : arg8.IsWhole) (arg9 : Memref sig .tc .vmem S128x512 .f32) (harg9 : arg9.IsWhole) (arg10 : Memref sig .tc .vmem S128x512 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x5 .f32) (harg14 : arg14.IsWhole) (arg15 : Memref sig .tc .vmem S1x5 .f32) (harg15 : arg15.IsWhole) (arg16 : Memref sig .tc .vmem S12x512x5 .f32) (harg16 : arg16.IsWhole) (arg17 : Memref sig .tc .vmem S12x512x2 .f32) (harg17 : arg17.IsWhole) (I : Ins F) (K : PUnit → sProp 𝕄) :
    iprop(owns (c : Thread nD τ) arg0 fullShare I.x0 ∗ owns (c : Thread nD τ) arg1 fullShare I.x1 ∗ owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ (∃ d, owns (c : Thread nD τ) arg16 fullShare d) ∗ (∃ d, owns (c : Thread nD τ) arg17 fullShare d)
        ∗ (iprop(owns (c : Thread nD τ) arg0 fullShare I.x0 ∗ owns (c : Thread nD τ) arg1 fullShare I.x1 ∗ owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare I.out ∗ owns (c : Thread nD τ) arg17 fullShare I.traj) -∗ K ⟨⟩))
      ⊢ wp frame (wpE (defs₀ (F := F)) Variants.none c none) Set.univ (cc0__social_lstm_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨x0, x1, x2, x3, x4, x5, x6, x7, x8, x9, x10, x11, x12, x13, x14, x15⟩ := I
  simp only [cc0__social_lstm_body_eq_skeleton]; unfold cc0__social_lstm_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (outPcs_covered ⟨arg0.view.read (Elt F) f0, arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15⟩)
  iexists _; isplitr
  swap; · iexact H17
  ipureintro
  exact View.read_writes_eq_canon _ _ _ (trajPcs_covered ⟨arg0.view.read (Elt F) f0, arg1.view.read (Elt F) f1, arg2.view.read (Elt F) f2, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15⟩)

end Cert.Proof.KernelIdeal
-- ==== Proof.KernelIdealRun.lean ====
/-
  The run of `KernelIdeal`: the one pipeline's proof data from the body's triple, the whole program's run with every array it
  leaves, and the frame.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.KernelIdealBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body finds in the sixteen input windows on core `c`. -/
def ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t

/-- The pipeline's proof data on core `c`: the arrays as the region finds them; each input's window at its block and the two
    outputs' at what the body leaves; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (ins m c t).out
    | ⟨17, _⟩ => (ins m c t).traj
    | ⟨n + 18, h⟩ => absurd (show n + 18 < 18 from h) (by omega)
  Φ _ := Pipeline.ΦA spec0 c
  q _ := fullShare
  owed _ := 0

/-- The proof data's arrays are the region's. -/
theorem A_eq (c : Dev nD) (w : Fin cfg0.W) : (dats m 0 c).A w = V m c (Pipeline.arrRef spec0 w) := by
  dsimp only [dats]

/-! What the body leaves, window by window. -/

/-- Window 0 after the body. -/
theorem after0_0 (c : Dev nD) (t : Fin cfg0.N) : (dats m 0 c).after 0 t = iblk m c 0 t := by dsimp only [dats]
/-- Window 1 after the body. -/
theorem after0_1 (c : Dev nD) (t : Fin cfg0.N) : (dats m 0 c).after 1 t = iblk m c 1 t := by dsimp only [dats]
/-- Window 2 after the body. -/
theorem after0_2 (c : Dev nD) (t : Fin cfg0.N) : (dats m 0 c).after 2 t = iblk m c 2 t := by dsimp only [dats]
/-- Window 3 after the body. -/
theorem after0_3 (c : Dev nD) (t : Fin cfg0.N) : (dats m 0 c).after 3 t = iblk m c 3 t := by dsimp only [dats]
/-- Window 4 after the body. -/
theorem after0_4 (c : Dev nD) (t : Fin cfg0.N) : (dats m 0 c).after 4 t = iblk m c 4 t := by dsimp only [dats]
/-- Window 5 after the body. -/
theorem after0_5 (c : Dev nD) (t : Fin cfg0.N) : (dats m 0 c).after 5 t = iblk m c 5 t := by dsimp only [dats]
/-- Window 6 after the body. -/
theorem after0_6 (c : Dev nD) (t : Fin cfg0.N) : (dats m 0 c).after 6 t = iblk m c 6 t := by dsimp only [dats]
/-- Window 7 after the body. -/
theorem after0_7 (c : Dev nD) (t : Fin cfg0.N) : (dats m 0 c).after 7 t = iblk m c 7 t := by dsimp only [dats]
/-- Window 8 after the body. -/
theorem after0_8 (c : Dev nD) (t : Fin cfg0.N) : (dats m 0 c).after 8 t = iblk m c 8 t := by dsimp only [dats]
/-- Window 9 after the body. -/
theorem after0_9 (c : Dev nD) (t : Fin cfg0.N) : (dats m 0 c).after 9 t = iblk m c 9 t := by dsimp only [dats]
/-- Window 10 after the body. -/
theorem after0_10 (c : Dev nD) (t : Fin cfg0.N) : (dats m 0 c).after 10 t = iblk m c 10 t := by dsimp only [dats]
/-- Window 11 after the body. -/
theorem after0_11 (c : Dev nD) (t : Fin cfg0.N) : (dats m 0 c).after 11 t = iblk m c 11 t := by dsimp only [dats]
/-- Window 12 after the body. -/
theorem after0_12 (c : Dev nD) (t : Fin cfg0.N) : (dats m 0 c).after 12 t = iblk m c 12 t := by dsimp only [dats]
/-- Window 13 after the body. -/
theorem after0_13 (c : Dev nD) (t : Fin cfg0.N) : (dats m 0 c).after 13 t = iblk m c 13 t := by dsimp only [dats]
/-- Window 14 after the body. -/
theorem after0_14 (c : Dev nD) (t : Fin cfg0.N) : (dats m 0 c).after 14 t = iblk m c 14 t := by dsimp only [dats]
/-- Window 15 after the body. -/
theorem after0_15 (c : Dev nD) (t : Fin cfg0.N) : (dats m 0 c).after 15 t = iblk m c 15 t := by dsimp only [dats]
/-- Window 16 after the body. -/
theorem after0_16 (c : Dev nD) (t : Fin cfg0.N) : (dats m 0 c).after 16 t = (ins m c t).out := by dsimp only [dats]
/-- Window 17 after the body. -/
theorem after0_17 (c : Dev nD) (t : Fin cfg0.N) : (dats m 0 c).after 17 t = (ins m c t).traj := by dsimp only [dats]

/-! Each input's window holds its block before the body. -/

/-- Window 0 before the body holds its block. -/
theorem before0_0 (c : Dev nD) (t : Fin cfg0.N) (d) : (dats m 0 c).before 0 t d = iblk m c 0 t :=
  before0_0_of m (dats m 0 c) (A_eq m c 0) (after0_0 m c) t d
/-- Window 1 before the body holds its block. -/
theorem before0_1 (c : Dev nD) (t : Fin cfg0.N) (d) : (dats m 0 c).before 1 t d = iblk m c 1 t :=
  before0_1_of m (dats m 0 c) (A_eq m c 1) (after0_1 m c) t d
/-- Window 2 before the body holds its block. -/
theorem before0_2 (c : Dev nD) (t : Fin cfg0.N) (d) : (dats m 0 c).before 2 t d = iblk m c 2 t :=
  before0_2_of m (dats m 0 c) (A_eq m c 2) (after0_2 m c) t d
/-- Window 3 before the body holds its block. -/
theorem before0_3 (c : Dev nD) (t : Fin cfg0.N) (d) : (dats m 0 c).before 3 t d = iblk m c 3 t :=
  before0_3_of m (dats m 0 c) (A_eq m c 3) (after0_3 m c) t d
/-- Window 4 before the body holds its block. -/
theorem before0_4 (c : Dev nD) (t : Fin cfg0.N) (d) : (dats m 0 c).before 4 t d = iblk m c 4 t :=
  before0_4_of m (dats m 0 c) (A_eq m c 4) (after0_4 m c) t d
/-- Window 5 before the body holds its block. -/
theorem before0_5 (c : Dev nD) (t : Fin cfg0.N) (d) : (dats m 0 c).before 5 t d = iblk m c 5 t :=
  before0_5_of m (dats m 0 c) (A_eq m c 5) (after0_5 m c) t d
/-- Window 6 before the body holds its block. -/
theorem before0_6 (c : Dev nD) (t : Fin cfg0.N) (d) : (dats m 0 c).before 6 t d = iblk m c 6 t :=
  before0_6_of m (dats m 0 c) (A_eq m c 6) (after0_6 m c) t d
/-- Window 7 before the body holds its block. -/
theorem before0_7 (c : Dev nD) (t : Fin cfg0.N) (d) : (dats m 0 c).before 7 t d = iblk m c 7 t :=
  before0_7_of m (dats m 0 c) (A_eq m c 7) (after0_7 m c) t d
/-- Window 8 before the body holds its block. -/
theorem before0_8 (c : Dev nD) (t : Fin cfg0.N) (d) : (dats m 0 c).before 8 t d = iblk m c 8 t :=
  before0_8_of m (dats m 0 c) (A_eq m c 8) (after0_8 m c) t d
/-- Window 9 before the body holds its block. -/
theorem before0_9 (c : Dev nD) (t : Fin cfg0.N) (d) : (dats m 0 c).before 9 t d = iblk m c 9 t :=
  before0_9_of m (dats m 0 c) (A_eq m c 9) (after0_9 m c) t d
/-- Window 10 before the body holds its block. -/
theorem before0_10 (c : Dev nD) (t : Fin cfg0.N) (d) : (dats m 0 c).before 10 t d = iblk m c 10 t :=
  before0_10_of m (dats m 0 c) (A_eq m c 10) (after0_10 m c) t d
/-- Window 11 before the body holds its block. -/
theorem before0_11 (c : Dev nD) (t : Fin cfg0.N) (d) : (dats m 0 c).before 11 t d = iblk m c 11 t :=
  before0_11_of m (dats m 0 c) (A_eq m c 11) (after0_11 m c) t d
/-- Window 12 before the body holds its block. -/
theorem before0_12 (c : Dev nD) (t : Fin cfg0.N) (d) : (dats m 0 c).before 12 t d = iblk m c 12 t :=
  before0_12_of m (dats m 0 c) (A_eq m c 12) (after0_12 m c) t d
/-- Window 13 before the body holds its block. -/
theorem before0_13 (c : Dev nD) (t : Fin cfg0.N) (d) : (dats m 0 c).before 13 t d = iblk m c 13 t :=
  before0_13_of m (dats m 0 c) (A_eq m c 13) (after0_13 m c) t d
/-- Window 14 before the body holds its block. -/
theorem before0_14 (c : Dev nD) (t : Fin cfg0.N) (d) : (dats m 0 c).before 14 t d = iblk m c 14 t :=
  before0_14_of m (dats m 0 c) (A_eq m c 14) (after0_14 m c) t d
/-- Window 15 before the body holds its block. -/
theorem before0_15 (c : Dev nD) (t : Fin cfg0.N) (d) : (dats m 0 c).before 15 t d = iblk m c 15 t :=
  before0_15_of m (dats m 0 c) (A_eq m c 15) (after0_15 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 4000000 in
/-- The body at any point: its triple at the blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c _ _ _ _ _ _ _ _ _ _ _ _ _ _ _ _ _ _ _ _ _ _ _ _ _ _ _ _ _ _ _ _ _ _ _ _ (ins m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole program runs to its end with every array of the pipeline at what the proof data gives, the host's results from
    them, and every counter at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) (run_main m ρ)) ((θ_run defs _ _).mono (fun _ h => h.2) (run_main_quiescent m ρ))

end Cert.Proof.KernelIdeal
-- ==== Proof.ReferenceFrame.lean ====
/-
  The reference's frame: its loop on the host runs to its end with the arguments unchanged, and it declares no counter.
-/
module

public import proofs.«01_k».proof.Defs
public import proofs.«01_k».proof.Proof.Gen.ReferenceIdeal
public import proofs.«01_k».proof.Proof.Gen.ReferenceIdeal.StepRun
public import Idealize.ShloMosaic.Lib.Quiescent

@[expose] public section

noncomputable section

namespace Cert.Proof.ReferenceIdeal

open Idealize.ShloMosaic Idealize.ShloMosaic.TcCoe Idealize.SL.Sem

/-- The reference leaves its arguments unchanged and every counter at zero. -/
theorem frame : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

end Cert.Proof.ReferenceIdeal

end
-- ==== Proof.Spec.lean ====
/-
  The mathematics both programs compute, over the extended reals and free of either program: who is whose neighbour and in
  which cell, the pooled hidden states, one cell update; and the arithmetic of gathering neighbours by rank.
-/
module

public import Idealize.ShloMosaic.Lib.Pointwise

@[expose] public section

set_option maxRecDepth 16384

noncomputable section

open Classical

namespace Cert.Proof.Spec

open Idealize.ShloMosaic

/-! ## Neighbours and pooling -/

/-- The two ends of the open window a neighbour's displacement lies in. -/
abbrev hi : EReal := Ideal.ofBits .f32 0x3F7D70A4#32
/-- The lower bound of a displacement that counts as near. -/
abbrev lo : EReal := Ideal.ofBits .f32 0xBF7D70A4#32

/-- The displacement of agent `j` seen from agent `i`, along one axis. -/
def rel (pp : Fin 512 → Fin 2 → EReal) (i j : Fin 512) (k : Fin 2) : EReal := pp j k - pp i k

/-- Agent `j` is a neighbour of agent `i`: inside the window along both axes, in the same scene, another agent. -/
def near (sc : Fin 512 → BitVec 32) (pp : Fin 512 → Fin 2 → EReal) (i j : Fin 512) : Prop :=
  (((rel pp i j 0 < hi ∧ lo < rel pp i j 0) ∧ rel pp i j 1 < hi) ∧ lo < rel pp i j 1) ∧ sc i = sc j ∧ i ≠ j

/-- The cell of agent `i`'s two-by-two grid that agent `j` stands in. -/
def cell (pp : Fin 512 → Fin 2 → EReal) (i j : Fin 512) : ℕ :=
  (if 1 ≤ rel pp i j 0 + 1 then 2 else 0) + (if 1 ≤ rel pp i j 1 + 1 then 1 else 0)

/-- The sum of the hidden states of agent `i`'s neighbours in cell `g`. -/
def pooled (sc : Fin 512 → BitVec 32) (pp : Fin 512 → Fin 2 → EReal) (h : Fin 512 → Fin 128 → EReal) (i : Fin 512) (g : ℕ)
    (c : Fin 128) : EReal :=
  ∑ j, if near sc pp i j ∧ cell pp i j = g then h j c else 0

/-! ## One cell update -/

/-- The weights. -/
structure Weights where
  scene : Fin 512 → BitVec 32
  wpos : Fin 64 → Fin 2 → EReal
  bpos : Fin 64 → EReal
  wsoc : Fin 64 → Fin 512 → EReal
  bsoc : Fin 64 → EReal
  wih : Fin 512 → Fin 128 → EReal
  bih : Fin 512 → EReal
  whh : Fin 512 → Fin 128 → EReal
  bhh : Fin 512 → EReal
  wpred : Fin 5 → Fin 128 → EReal
  bpred : Fin 5 → EReal

variable (W : Weights) (pp r : Fin 512 → Fin 2 → EReal) (h c : Fin 512 → Fin 128 → EReal)

/-- The embedding of a displacement. -/
def et (i : Fin 512) (e : Fin 64) : EReal := max (∑ x, r i x * W.wpos e x + W.bpos e) 0

/-- The embedding of the pooled hidden states. -/
def soc (i : Fin 512) (e : Fin 64) : EReal :=
  max (∑ x : Fin 512, pooled W.scene pp h i (x.val / 128) ⟨x.val % 128, Nat.mod_lt _ (by omega)⟩ * W.wsoc e x + W.bsoc e) 0

/-- The four gates before their nonlinearities. -/
def gates (i : Fin 512) (q : Fin 512) : EReal :=
  (((∑ x : Fin 64, et W r i x * W.wih q ⟨x.val, by omega⟩ + ∑ x : Fin 64, soc W pp h i x * W.wih q ⟨64 + x.val, by omega⟩) + W.bih q)
    + ∑ x, h i x * W.whh q x) + W.bhh q

/-- The cell state after an update, -/
def newC (i : Fin 512) (e : Fin 128) : EReal :=
  Ideal.logistic (gates W pp r h i ⟨128 + e.val, by omega⟩) * c i e
    + Ideal.logistic (gates W pp r h i ⟨e.val, by omega⟩) * Ideal.tanh (gates W pp r h i ⟨256 + e.val, by omega⟩)

/-- and the hidden state. -/
def newH (i : Fin 512) (e : Fin 128) : EReal :=
  Ideal.logistic (gates W pp r h i ⟨384 + e.val, by omega⟩) * Ideal.tanh (newC W pp r h c i e)

/-- The predicted outputs. -/
def out (i : Fin 512) (e : Fin 5) : EReal := ∑ x, h i x * W.wpred e x + W.bpred e

/-- The predicted displacement: the first two outputs. -/
def outRel (i : Fin 512) (k : Fin 2) : EReal := out W h i ⟨k.val, by omega⟩

/-! ## A hidden state is never `⊤` -/

/-- A hyperbolic tangent is a real number, whatever its argument. -/
theorem tanh_ne_top (x : EReal) : ∃ r : ℝ, Ideal.tanh x = (r : EReal) := by
  induction x with
  | bot => exact ⟨-1, rfl⟩
  | top => exact ⟨1, rfl⟩
  | coe r => exact ⟨Real.tanh r, rfl⟩

/-- So is a logistic. -/
theorem logistic_real (x : EReal) : ∃ r : ℝ, Ideal.logistic x = (r : EReal) := by
  have key : ∀ y : EReal, 1 + y ≠ 0 → ∃ r : ℝ, Ideal.div 1 (1 + y) = (r : EReal) := by
    intro y hy
    unfold Ideal.div
    rw [if_neg hy, one_mul]
    generalize 1 + y = z
    induction z with
    | bot => exact ⟨0, by rw [EReal.inv_bot]; rfl⟩
    | top => exact ⟨0, by rw [EReal.inv_top]; rfl⟩
    | coe r => exact ⟨r⁻¹, (EReal.coe_inv r).symm⟩
  unfold Ideal.logistic
  apply key
  have h0 : (0 : EReal) ≤ Ideal.exp (-x) := by
    generalize -x = y
    induction y with
    | bot => exact le_refl _
    | top => exact le_top
    | coe r => exact EReal.coe_nonneg.2 (Real.exp_pos r).le
  have : (0 : EReal) < 1 + Ideal.exp (-x) := lt_of_lt_of_le zero_lt_one (le_add_of_nonneg_right h0)
  exact this.ne'

/-- The hidden state after an update is a real number. -/
theorem newH_ne_top (i : Fin 512) (e : Fin 128) : newH W pp r h c i e ≠ ⊤ := by
  unfold newH
  obtain ⟨a, ha⟩ := logistic_real (gates W pp r h i ⟨384 + e.val, by omega⟩)
  obtain ⟨b, hb⟩ := tanh_ne_top (newC W pp r h c i e)
  rw [ha, hb, ← EReal.coe_mul]
  exact EReal.coe_ne_top _

/-! ## Gathering neighbours by rank -/

/-- The rank of `j` among the members of `m`: how many members precede it. -/
def rank (m : Fin 512 → Prop) (j : Fin 512) : ℕ := (Finset.univ.filter fun k => m k ∧ k < j).card

/-- A rank is below the number of agents. -/
theorem rank_lt (m : Fin 512 → Prop) (j : Fin 512) : rank m j < 512 := by
  have : rank m j < (Finset.univ : Finset (Fin 512)).card :=
    Finset.card_lt_card ⟨Finset.subset_univ _, fun hh => by simpa using hh (Finset.mem_univ j)⟩
  simpa using this

/-- Of two chosen agents the later one has the larger rank. -/
theorem rank_mono {m : Fin 512 → Prop} {j j' : Fin 512} (hj : m j) (hlt : j < j') : rank m j < rank m j' := by
  refine Finset.card_lt_card ⟨fun k hk => ?_, fun hh => ?_⟩
  · simp only [Finset.mem_filter, Finset.mem_univ, true_and] at hk ⊢
    exact ⟨hk.1, hk.2.trans hlt⟩
  · have := hh (x := j) (by simp [hj, hlt])
    simp at this

/-- Two members of one rank are one. -/
theorem rank_inj {m : Fin 512 → Prop} {j j' : Fin 512} (hj : m j) (hj' : m j') (he : rank m j = rank m j') : j = j' := by
  rcases lt_trichotomy j j' with hlt | heq | hlt
  · exact absurd he (rank_mono hj hlt).ne
  · exact heq
  · exact absurd he (rank_mono hj' hlt).ne'

/-- A member's rank, as a number; minus one at the others. -/
def rid (m : Fin 512 → Prop) (j : Fin 512) : EReal := if m j then ((rank m j : ℝ) : EReal) else ((-1 : ℝ) : EReal)

/-- The rank as the sum of products of indicators. -/
theorem rank_sum (m : Fin 512 → Prop) (j : Fin 512) (a b : Fin 512 → EReal) (ha : ∀ k, a k = if m k then 1 else 0)
    (hb : ∀ k, b k = if k < j then 1 else 0) : ∑ k, a k * b k = ((rank m j : ℝ) : EReal) := by
  have : ∀ k, a k * b k = if m k ∧ k < j then (1 : EReal) else 0 := by
    intro k; rw [ha, hb]; by_cases h1 : m k <;> by_cases h2 : k < j <;> simp [h1, h2]
  rw [Finset.sum_congr rfl fun k _ => this k, Finset.sum_ite, Finset.sum_const_zero, add_zero, Finset.sum_const]
  unfold rank
  simp

/-- The stored rank is `n` just for the chosen agent of rank `n`. -/
theorem rid_eq_iff (m : Fin 512 → Prop) (j : Fin 512) (n : ℕ) : rid m j = ((n : ℝ) : EReal) ↔ m j ∧ rank m j = n := by
  unfold rid
  split_ifs with h
  · rw [EReal.coe_eq_coe_iff, Nat.cast_inj]; simp [h]
  · rw [EReal.coe_eq_coe_iff]
    constructor
    · intro he
      have : (0 : ℝ) ≤ n := Nat.cast_nonneg n
      linarith
    · exact fun hh => absurd hh.1 h

/-- The hidden state of the member of rank `n`, if there is one. -/
def ofRank (m : Fin 512 → Prop) (v : Fin 512 → EReal) (n : ℕ) : EReal := ∑ x, if m x ∧ rank m x = n then v x else 0

/-- The sum over the members whose rank is below `n`. -/
def below (m : Fin 512 → Prop) (v : Fin 512 → EReal) (n : ℕ) : EReal := ∑ x, if m x ∧ rank m x < n then v x else 0

/-- Below rank zero there is nothing to sum. -/
theorem below_zero (m : Fin 512 → Prop) (v : Fin 512 → EReal) : below m v 0 = 0 := by
  unfold below; simp

/-- One rank more adds that rank's term. -/
theorem below_succ (m : Fin 512 → Prop) (v : Fin 512 → EReal) (n : ℕ) : below m v (n + 1) = below m v n + ofRank m v n := by
  unfold below ofRank
  rw [← Finset.sum_add_distrib]
  refine Finset.sum_congr rfl fun x _ => ?_
  by_cases hm : m x
  · rcases lt_trichotomy (rank m x) n with hl | he | hg
    · simp [hm, hl, hl.ne, Nat.lt_succ_of_lt hl]
    · simp [hm, he]
    · have h1 : ¬ rank m x < n := by omega
      have h2 : ¬ rank m x < n + 1 := by omega
      simp [hm, h1, h2, hg.ne']
  · simp [hm]

/-- Once every rank is below the bound, the sum is over all the members. -/
theorem below_all (m : Fin 512 → Prop) (v : Fin 512 → EReal) (n : ℕ) (h : ∀ x, m x → rank m x < n) :
    below m v n = ∑ x, if m x then v x else 0 := by
  unfold below
  refine Finset.sum_congr rfl fun x _ => ?_
  by_cases hm : m x
  · simp [hm, h x hm]
  · simp [hm]

/-- A rank that no chosen agent has contributes zero. -/
theorem ofRank_none (m : Fin 512 → Prop) (v : Fin 512 → EReal) (n : ℕ) (h : ∀ x, m x → rank m x ≠ n) : ofRank m v n = 0 := by
  unfold ofRank
  refine Finset.sum_eq_zero fun x _ => if_neg fun hh => h x hh.1 hh.2

/-- A number below `⊤` is the sum of itself and of what two further subtractions leave of it. -/
theorem split_self {v : EReal} (h : v ≠ ⊤) : (v + (v - v)) + ((v - v) - (v - v)) = v := by
  induction v with
  | bot => simp
  | top => exact absurd rfl h
  | coe r => simp [← EReal.coe_sub, ← EReal.coe_add]

/-- The three partial products, of the indicator of one rank with a vector and with what two subtractions leave of it, add
    up to the member of that rank. -/
theorem split_sum (m : Fin 512 → Prop) (v : Fin 512 → EReal) (hv : ∀ x, v x ≠ ⊤) (n : ℕ) (e : Fin 512 → EReal)
    (he : ∀ x, e x = if rid m x = ((n : ℝ) : EReal) then 1 else 0) :
    (∑ x, e x * v x + ∑ x, e x * (v x - v x)) + ∑ x, e x * ((v x - v x) - (v x - v x)) = ofRank m v n := by
  have he' : ∀ x, e x = if m x ∧ rank m x = n then 1 else 0 := by
    intro x; rw [he x]; exact if_congr (rid_eq_iff m x n) rfl rfl
  by_cases hex : ∃ x, m x ∧ rank m x = n
  · obtain ⟨x0, hx0⟩ := hex
    have hone : ∀ x, x ≠ x0 → ¬ (m x ∧ rank m x = n) := fun x hx hh => hx (rank_inj hh.1 hx0.1 (hh.2.trans hx0.2.symm))
    have hs : ∀ w : Fin 512 → EReal, ∑ x, e x * w x = w x0 := by
      intro w
      rw [Finset.sum_eq_single x0 (fun x _ hx => by rw [he', if_neg (hone x hx), zero_mul]) (fun hh => absurd (Finset.mem_univ _) hh),
        he', if_pos hx0, one_mul]
    rw [hs v, hs fun x => v x - v x, hs fun x => (v x - v x) - (v x - v x)]
    unfold ofRank
    rw [Finset.sum_eq_single x0 (fun x _ hx => if_neg (hone x hx)) (fun hh => absurd (Finset.mem_univ _) hh), if_pos hx0]
    exact split_self (hv x0)
  · have hs : ∀ w : Fin 512 → EReal, ∑ x, e x * w x = 0 := by
      intro w
      refine Finset.sum_eq_zero fun x _ => ?_
      rw [he', if_neg fun hh => hex ⟨x, hh⟩, zero_mul]
    rw [hs, hs, hs, ofRank_none m v n fun x hm hr => hex ⟨x, hm, hr⟩]
    simp

/-! ## The greatest rank -/

/-- One more than the greatest rank in any row, `0` where no row has a member. -/
def rounds (m : Fin 2048 → Fin 512 → Prop) : ℕ :=
  Finset.univ.sup fun x : Fin 2048 × Fin 512 => if m x.1 x.2 then rank (m x.1) x.2 + 1 else 0

/-- There are at most as many rounds as agents. -/
theorem rounds_le (m : Fin 2048 → Fin 512 → Prop) : rounds m ≤ 512 := by
  unfold rounds
  refine Finset.sup_le fun x _ => ?_
  split_ifs
  · exact rank_lt _ _
  · omega

/-- Every chosen agent's rank is below the number of rounds. -/
theorem rank_lt_rounds (m : Fin 2048 → Fin 512 → Prop) {r : Fin 2048} {j : Fin 512} (h : m r j) : rank (m r) j < rounds m := by
  have := Finset.le_sup (f := fun x : Fin 2048 × Fin 512 => if m x.1 x.2 then rank (m x.1) x.2 + 1 else 0) (Finset.mem_univ (r, j))
  simp only [h, if_true] at this
  exact this

/-- The greatest of entries that are each one less than a count is one less than the greatest count. -/
theorem fold_max_count {ι : Type} [Fintype ι] [Nonempty ι] (f : ι → EReal) (g : ι → ℕ)
    (hf : ∀ x, f x = (((g x : ℝ) - 1 : ℝ) : EReal)) :
    Finset.fold max ⊥ f Finset.univ = ((((Finset.univ.sup g : ℕ) : ℝ) - 1 : ℝ) : EReal) := by
  apply le_antisymm
  · rw [Finset.fold_max_le]
    refine ⟨bot_le, fun x _ => ?_⟩
    rw [hf, EReal.coe_le_coe_iff]
    have : ((g x : ℕ) : ℝ) ≤ ((Finset.univ.sup g : ℕ) : ℝ) := Nat.cast_le.2 (Finset.le_sup (Finset.mem_univ x))
    linarith
  · rw [Finset.le_fold_max]
    right
    obtain ⟨x, hx, he⟩ := Finset.exists_mem_eq_sup (Finset.univ : Finset ι) Finset.univ_nonempty g
    exact ⟨x, hx, by rw [hf, he]⟩

/-- The greatest entry, plus one, is the number of rounds. -/
theorem fold_max_rid (m : Fin 2048 → Fin 512 → Prop) (f : Fin 2048 × Fin 512 → EReal) (hf : ∀ x, f x = rid (m x.1) x.2) :
    Finset.fold max ⊥ f Finset.univ + 1 = ((rounds m : ℝ) : EReal) := by
  rw [fold_max_count f (fun x => if m x.1 x.2 then rank (m x.1) x.2 + 1 else 0)
      (fun x => by rw [hf]; unfold rid; split_ifs <;> simp), ← EReal.coe_one, ← EReal.coe_add, sub_add_cancel]
  rfl

/-! ## The constants -/

/-- The word of `-∞`. -/
theorem neg_inf : Ideal.ofBits .f32 0xFF800000#32 = ⊥ := by
  simp [Ideal.ofBits, Ideal.ieee]

/-- The word of `-1`. -/
theorem neg_one : Ideal.ofBits .f32 0xBF800000#32 = ((-1 : ℝ) : EReal) := by
  simp [Ideal.ofBits, Ideal.ieee, -EReal.coe_mul, -EReal.coe_neg]; norm_num

/-- The word of `2`. -/
theorem two : Ideal.ofBits .f32 0x40000000#32 = ((2 : ℝ) : EReal) := by
  simp [Ideal.ofBits, Ideal.ieee, -EReal.coe_mul]; norm_num

/-- The upper bound is a real number, at most one, -/
theorem hi_val : ∃ x : ℝ, x ≤ 1 ∧ hi = (x : EReal) := by
  refine ⟨16609444 / 2 ^ 24, by norm_num, ?_⟩
  simp [hi, Ideal.ofBits, Ideal.ieee, -EReal.coe_mul, -EReal.coe_neg]; norm_num

/-- and the lower one a real number, at least minus one. -/
theorem lo_val : ∃ x : ℝ, -1 ≤ x ∧ lo = (x : EReal) := by
  refine ⟨-(16609444 / 2 ^ 24), by norm_num, ?_⟩
  simp [lo, Ideal.ofBits, Ideal.ieee, -EReal.coe_mul, -EReal.coe_neg]; norm_num

end Cert.Proof.Spec

end
-- ==== Proof.KernelPool.lean ====
/-
  The kernel's pooling at the ideal values: its rounds over the neighbours' ranks add up, for every cell and row, to the sum of
  the hidden states of the neighbours in that cell.
-/
module

public import proofs.«01_k».proof.Proof.KernelIdealBody
public import proofs.«01_k».proof.Proof.Spec
public import Idealize.ShloMosaic.Lib.Pointwise
public import Idealize.ShloMosaic.Lib.DynamicIndex

@[expose] public section

set_option maxRecDepth 16384

noncomputable section

open Classical

namespace Cert.Proof.KernelIdeal

open Cert.KernelIdeal Cert.KernelIdeal.Gen
open Idealize.ShloMosaic

/-! ## Both loops' pooling, as one function -/

/-- The rounds over the ranks: `rid` the ranks, `hx` the hidden states with what two subtractions leave of them, `gm` one more than
    the greatest rank. -/
def poolFold (rid : FVec Ideal S2048x512 .f32) (hx : FVec Ideal S512x384 .bf16) (gm : Ideal .f32) (n : BitVec 32) : FVec Ideal S2048x128 .f32 :=
  Scf.fold (fun (k : Fin (k0_t3_loop n).trips) a => k0_pay26 rid n hx gm
      (Scalar.addi n 1#32) 2#32 (Scalar.divsi (Scalar.addi n 1#32) 2#32)
      (Scalar.subi (Scalar.extui (Scalar.cmpi .sgt (Scalar.addi n 1#32) 0#32)) (Scalar.extui (Scalar.cmpi .slt (Scalar.addi n 1#32) 0#32))) 0#32 k a)
    (Scf.fold (fun (k : Fin (k0_t2_loop n).trips) a => k0_pay25 rid n hx gm k a) k0_pay24)

/-- Which displacements lie in the window along both axes. -/
def within (rx ry : FVec Ideal S512x512 .f32) : IVec S512x512 1 :=
  andi (andi (andi (cmpf .olt rx (broadcast S512x512 (Scalar.ofBits .f32 0x3F7D70A4#32))) (cmpf .ogt rx (broadcast S512x512 (Scalar.ofBits .f32 0xBF7D70A4#32))))
    (cmpf .olt ry (broadcast S512x512 (Scalar.ofBits .f32 0x3F7D70A4#32)))) (cmpf .ogt ry (broadcast S512x512 (Scalar.ofBits .f32 0xBF7D70A4#32)))

/-- The pooling of a step from the displacements along the two axes. -/
def pool (W : Wts Ideal) (rx ry : FVec Ideal S512x512 .f32) (ht : FVec Ideal S512x128 .f32) : FVec Ideal S2048x128 .f32 :=
  poolFold (k0_pay39 W.v10 W.v17 rx ry (within rx ry)) (k0_pay22 ht)
    (k0_pay43 (k0_pay42 W.v10 W.v17 rx ry (within rx ry)))
    (Scalar.fptosi 32 (k0_pay43 (k0_pay42 W.v10 W.v17 rx ry (within rx ry))))

/-- A past step's pooled sums, as the pooling of its two displacement tables. -/
theorem encAcc_eq (W : Wts Ideal) (p : Vec Ideal S1x512x2 .f32) (q : Vec Ideal S1x2x512 .f32) (ht : FVec Ideal S512x128 .f32) :
    encAcc W p q ht = pool W (k0_pay14 p q) (k0_pay15 p q) ht := rfl

/-- A predicted step's, likewise. -/
theorem decAcc_eq (W : Wts Ideal) (v5 : FVec Ideal S512x512 .f32) (v46 : Vec Ideal S128x5 .f32) (v49 : Vec Ideal S1x5 .f32) (ht : FVec Ideal S512x128 .f32) (pp : FVec Ideal S512x2 .f32) :
    decAcc W v5 v46 v49 ht pp = pool W (k0_pay36 v5 (k0_pay5 v46) (k0_pay6 v49) ht pp) (k0_pay37 v5 (k0_pay5 v46) (k0_pay6 v49) ht pp) ht := rfl

/-! ## The membership of a cell -/

/-- Row `r` gathers, for agent `r mod 512`, the neighbours in cell `r / 512`. -/
def mem (sc : Fin 512 → BitVec 32) (pp : Fin 512 → Fin 2 → EReal) (r : Fin 2048) (j : Fin 512) : Prop :=
  Spec.near sc pp ⟨r.val % 512, Nat.mod_lt _ (by omega)⟩ j ∧ Spec.cell pp ⟨r.val % 512, Nat.mod_lt _ (by omega)⟩ j = r.val / 512

/-- The kernel's mask of neighbours by cell and row. -/
def maskK (v17 : IVec S512x512 1) (rx ry : FVec Ideal S512x512 .f32) : IVec S2048x512 1 :=
  let nb := andi (within rx ry) v17
  let ax := cmpf .oge (addf rx (broadcast S512x512 (Scalar.ofBits .f32 0x3F800000#32))) (broadcast S512x512 (Scalar.ofBits .f32 0x3F800000#32))
  let ay := cmpf .oge (addf ry (broadcast S512x512 (Scalar.ofBits .f32 0x3F800000#32))) (broadcast S512x512 (Scalar.ofBits .f32 0x3F800000#32))
  let one := constantI S512x512 1 1#1
  concatenate S2048x512 0 [⟨S512x512, andi (andi nb (xori ax one)) (xori ay one)⟩, ⟨S512x512, andi (andi nb (xori ax one)) ay⟩,
    ⟨S512x512, andi (andi nb ax) (xori ay one)⟩, ⟨S512x512, andi (andi nb ax) ay⟩] concatenates_S512x512_S512x512_S512x512_S512x512_S2048x512_d0

/-- The four cells' tables of neighbours, one below the other. -/
theorem pay39_eq (v10 : FVec Ideal S512x512 .bf16) (v17 : IVec S512x512 1) (rx ry : FVec Ideal S512x512 .f32) :
    k0_pay39 v10 v17 rx ry (within rx ry)
      = select (maskK v17 rx ry)
          (matmul dot_S2048x512_S512x512_S2048x512_1_0_0_1_n_n none
            (truncf .bf16 (select (maskK v17 rx ry) (broadcast S2048x512 (Scalar.ofBits .f32 0x3F800000#32)) (broadcast S2048x512 (Scalar.ofBits .f32 0x00000000#32))) bitsLt_bf16_f32)
            v10 (constant S2048x512 .f32 0x00000000#32))
          (broadcast S2048x512 (Scalar.ofBits .f32 0xBF800000#32)) := rfl

/-- The conjunction of two truth values, as bits. -/
theorem bits_and {p q : Prop} [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The negation of one. -/
theorem bits_not {p : Prop} [Decidable p] : IntOp.xori (BitVec.ofBool (decide p)) 1#1 = BitVec.ofBool (decide ¬p) := by
  by_cases hp : p <;> simp [hp, IntOp.xori]

/-- Equivalent propositions have equal bits. -/
theorem bits_congr {p q : Prop} {ip : Decidable p} {iq : Decidable q} (h : p ↔ q) :
    BitVec.ofBool (@decide p ip) = BitVec.ofBool (@decide q iq) := by
  by_cases hq : q
  · simp [hq, h.2 hq]
  · simp only [hq, show ¬p from fun hp => hq (h.1 hp), decide_false]

/-- A selection by a truth value's bit. -/
theorem bits_select {α : Type} {p : Prop} [Decidable p] (a b : α) : Scalar.select (BitVec.ofBool (decide p)) a b = if p then a else b := by
  by_cases hp : p <;> simp [hp, Scalar.select]

/-- A displacement lies in cell 0 when both its coordinates are in the lower half, -/
theorem cell_iff0 (pp : Fin 512 → Fin 2 → EReal) (i j : Fin 512) :
    Spec.cell pp i j = 0 ↔ ¬1 ≤ Spec.rel pp i j 0 + 1 ∧ ¬1 ≤ Spec.rel pp i j 1 + 1 := by
  unfold Spec.cell; by_cases hx : 1 ≤ Spec.rel pp i j 0 + 1 <;> by_cases hy : 1 ≤ Spec.rel pp i j 1 + 1 <;> simp [hx, hy]

/-- in cell 1 when only the second is in the upper half, -/
theorem cell_iff1 (pp : Fin 512 → Fin 2 → EReal) (i j : Fin 512) :
    Spec.cell pp i j = 1 ↔ ¬1 ≤ Spec.rel pp i j 0 + 1 ∧ 1 ≤ Spec.rel pp i j 1 + 1 := by
  unfold Spec.cell; by_cases hx : 1 ≤ Spec.rel pp i j 0 + 1 <;> by_cases hy : 1 ≤ Spec.rel pp i j 1 + 1 <;> simp [hx, hy]

/-- in cell 2 when only the first is, -/
theorem cell_iff2 (pp : Fin 512 → Fin 2 → EReal) (i j : Fin 512) :
    Spec.cell pp i j = 2 ↔ 1 ≤ Spec.rel pp i j 0 + 1 ∧ ¬1 ≤ Spec.rel pp i j 1 + 1 := by
  unfold Spec.cell; by_cases hx : 1 ≤ Spec.rel pp i j 0 + 1 <;> by_cases hy : 1 ≤ Spec.rel pp i j 1 + 1 <;> simp [hx, hy]

/-- and in cell 3 when both are. -/
theorem cell_iff3 (pp : Fin 512 → Fin 2 → EReal) (i j : Fin 512) :
    Spec.cell pp i j = 3 ↔ 1 ≤ Spec.rel pp i j 0 + 1 ∧ 1 ≤ Spec.rel pp i j 1 + 1 := by
  unfold Spec.cell; by_cases hx : 1 ≤ Spec.rel pp i j 0 + 1 <;> by_cases hy : 1 ≤ Spec.rel pp i j 1 + 1 <;> simp [hx, hy]

section Mask
variable (sc : Fin 512 → BitVec 32) (pp : Fin 512 → Fin 2 → EReal) (v17 : IVec S512x512 1) (rx ry : FVec Ideal S512x512 .f32)
  (hx : ∀ i j, rx (ix2 i j) = Spec.rel pp i j 0) (hy : ∀ i j, ry (ix2 i j) = Spec.rel pp i j 1)
  (hv : ∀ i j, v17 (ix2 i j) = BitVec.ofBool (decide (sc i = sc j ∧ i ≠ j)))

include hx hy hv in
/-- The mask's bit at a row and a column. -/
theorem mask_apply (r : Fin 2048) (j : Fin 512) : maskK v17 rx ry (ix2 r j) = BitVec.ofBool (decide (mem sc pp r j)) := by
  have hmod : ∀ (i : Fin 512) (g : ℕ), r.val = g * 512 + i.val → (mem sc pp r j ↔ Spec.near sc pp i j ∧ Spec.cell pp i j = g) := by
    intro i g hr
    have e1 : (⟨r.val % 512, Nat.mod_lt _ (by omega)⟩ : Fin 512) = i := Fin.ext (by have := i.isLt; show r.val % 512 = i.val; omega)
    have e2 : r.val / 512 = g := by have := i.isLt; omega
    unfold mem
    rw [e1, e2]
  have hr := r.isLt
  pointwise [maskK, within]
  simp only [hx, hy, hv, bits_and, bits_not]
  by_cases h1 : r.val < 512
  · rw [dif_pos h1]
    refine bits_congr (Iff.symm ((hmod ⟨r.val, by omega⟩ 0 (by show r.val = 0 * 512 + (r.val); omega)).trans ?_))
    rw [cell_iff0]
    exact and_assoc.symm
  rw [dif_neg h1]
  by_cases h2 : r.val - 512 < 512
  · rw [dif_pos h2]
    refine bits_congr (Iff.symm ((hmod ⟨r.val - 512, by omega⟩ 1 (by show r.val = 1 * 512 + (r.val - 512); omega)).trans ?_))
    rw [cell_iff1]
    exact and_assoc.symm
  rw [dif_neg h2]
  by_cases h3 : r.val - 512 - 512 < 512
  · rw [dif_pos h3]
    refine bits_congr (Iff.symm ((hmod ⟨r.val - 512 - 512, by omega⟩ 2 (by show r.val = 2 * 512 + (r.val - 512 - 512); omega)).trans ?_))
    rw [cell_iff2]
    exact and_assoc.symm
  · rw [dif_neg h3]
    refine bits_congr (Iff.symm ((hmod ⟨r.val - 512 - 512 - 512, by omega⟩ 3 (by show r.val = 3 * 512 + (r.val - 512 - 512 - 512); omega)).trans ?_))
    rw [cell_iff3]
    exact and_assoc.symm

/-- The triangular table. -/
theorem tri_apply (i j : Fin 512) : k0_pay51 (F := Ideal) (ix2 i j) = if i < j then 1 else 0 := by
  pointwise [k0_pay51]
  have h : IntOp.cmpi .slt (BitVec.ofNat 32 i.val) (BitVec.ofNat 32 j.val) = BitVec.ofBool (decide (i < j)) := by
    show BitVec.ofBool (BitVec.slt _ _) = _
    congr 1
    rw [BitVec.slt_eq_decide, toInt_ofNat_of_lt (by omega), toInt_ofNat_of_lt (by omega)]
    simp
  rw [h, bits_select]

include hx hy hv in
/-- The table of ranks. -/
theorem rid_apply (r : Fin 2048) (j : Fin 512) :
    k0_pay39 k0_pay51 v17 rx ry (within rx ry) (ix2 r j) = Spec.rid (mem sc pp r) j := by
  rw [pay39_eq]
  have hm := mask_apply sc pp v17 rx ry hx hy hv
  pointwise
  simp only [hm, bits_select]
  unfold Spec.rid
  refine if_congr Iff.rfl ?_ Spec.neg_one
  rw [← Spec.rank_sum (mem sc pp r) j (fun k => if mem sc pp r k then 1 else 0) (fun k => if k < j then 1 else 0) (fun _ => rfl) (fun _ => rfl)]
  refine Finset.sum_congr rfl fun x _ => ?_
  rw [tri_apply]
  by_cases h : mem sc pp r x
  · rw [if_pos h, if_pos h, one_mul]
  · rw [if_neg h, if_neg h, zero_mul]

end Mask

/-! ## The rounds -/

/-- A fold keeps what each trip keeps. -/
theorem fold_inv {σ : Type} {n : ℕ} (f : Fin n → σ → σ) (init : σ) (P : ℕ → σ → Prop) (h0 : P 0 init)
    (hs : ∀ (k : Fin n) a, P k.val a → P (k.val + 1) (f k a)) : P n (Scf.fold f init) := by
  rw [Scf.fold_eq]
  induction n generalizing init P with
  | zero => simpa using h0
  | succ n ih =>
    rw [List.finRange_succ, List.foldl_cons, List.foldl_map]
    exact ih (fun k => f k.succ) (f 0 init) (fun k a => P (k + 1) a) (hs 0 init h0) (fun k a ha => hs k.succ a ha)

/-- A loop of no turns leaves what it starts from. -/
theorem fold_none {σ : Type} {n : ℕ} (hn : n = 0) (f : Fin n → σ → σ) (init : σ) : Scf.fold f init = init := by
  subst hn; rw [Scf.fold_eq]; rfl

/-- A small whole number, converted to an integer, is that number. -/
theorem fptosi_nat (n : ℕ) (hn : n ≤ 512) : Ideal.fptosi 32 ((n : ℝ) : EReal) = BitVec.ofNat 32 n := by
  unfold Ideal.fptosi
  have h : Ideal.toIntClamped (-(2 ^ (32 - 1) : Nat)) ((2 ^ (32 - 1) : Nat) - 1) ((n : ℝ) : EReal) = (n : ℤ) := by
    show max _ (min _ (if (0 : ℝ) ≤ n then ⌊(n : ℝ)⌋ else ⌈(n : ℝ)⌉)) = _
    rw [if_pos (Nat.cast_nonneg n), Int.floor_natCast]
    norm_num
    omega
  rw [h]
  exact BitVec.ofInt_natCast 32 n

/-- One round's product: the indicator of the rank `v`, times the hidden states and what two subtractions leave of them, added up. -/
def part (rid : FVec Ideal S2048x512 .f32) (hx : FVec Ideal S512x384 .bf16) (v : Ideal .f32) : FVec Ideal S2048x128 .f32 :=
  let M := matmul dot_S2048x512_S512x384_S2048x384_1_0_0_1_n_n none
    (truncf .bf16 (select (cmpf .oeq rid (broadcast S2048x512 v)) (broadcast S2048x512 (Scalar.ofBits .f32 0x3F800000#32)) (broadcast S2048x512 (Scalar.ofBits .f32 0x00000000#32))) bitsLt_bf16_f32)
    hx (constant S2048x384 .f32 0x00000000#32)
  addf (addf (extractStridedSlice S2048x128 ![0, 0] M slices_S2048x384_o0_0_S2048x128) (extractStridedSlice S2048x128 ![0, 128] M slices_S2048x384_o0_128_S2048x128))
    (extractStridedSlice S2048x128 ![0, 256] M slices_S2048x384_o0_256_S2048x128)

/-- What one round adds to the pooled sums. -/
theorem pay25_eq (rid : FVec Ideal S2048x512 .f32) (n : BitVec 32) (hx : FVec Ideal S512x384 .bf16) (gm : Ideal .f32)
    (k : Fin (k0_t2_loop n).trips) (a : FVec Ideal S2048x128 .f32) :
    k0_pay25 rid n hx gm k a
      = (let v : Ideal .f32 := Scalar.sitofp .f32 (Scalar.muli 2#32 (Scf.iv 0#32 1#32 k.val))
        addf (addf a (part rid hx v))
          (Scalar.select (Scalar.cmpf .olt (Scalar.addf v (Scalar.ofBits .f32 0x3F800000#32)) gm)
            (part rid hx (Scalar.addf v (Scalar.ofBits .f32 0x3F800000#32))) (broadcast S2048x128 (Scalar.ofBits .f32 0x00000000#32)))) := rfl

/-- A round adds the member of its rank. -/
theorem part_apply (m : Fin 2048 → Fin 512 → Prop) (rid : FVec Ideal S2048x512 .f32) (hrid : ∀ r j, rid (ix2 r j) = Spec.rid (m r) j)
    (ht : FVec Ideal S512x128 .f32) (hh : ∀ j c, ht (ix2 j c) ≠ ⊤) (n : ℕ) (r : Fin 2048) (c : Fin 128) :
    part rid (k0_pay22 ht) ((n : ℝ) : EReal) (ix2 r c) = Spec.ofRank (m r) (fun j => ht (ix2 j c)) n := by
  rw [← Spec.split_sum (m r) (fun j => ht (ix2 j c)) (fun j => hh j c) n (fun x => if Spec.rid (m r) x = ((n : ℝ) : EReal) then 1 else 0) (fun _ => rfl)]
  have h0 : ∀ x : Fin 512, k0_pay22 ht (ix2 x ⟨c.val, by omega⟩) = ht (ix2 x c) := by
    intro x; pointwise [k0_pay22]
  have h1 : ∀ x : Fin 512, k0_pay22 ht (ix2 x ⟨128 + c.val, by omega⟩) = ht (ix2 x c) - ht (ix2 x c) := by
    intro x; pointwise [k0_pay22]
  have h2 : ∀ x : Fin 512, k0_pay22 ht (ix2 x ⟨256 + c.val, by omega⟩) = (ht (ix2 x c) - ht (ix2 x c)) - (ht (ix2 x c) - ht (ix2 x c)) := by
    intro x; pointwise [k0_pay22]
    rw [dif_neg (by omega), dif_neg (by omega)]
    have e : (⟨256 + c.val - 128 - 128, by omega⟩ : Fin 128) = c := Fin.ext (by show 256 + c.val - 128 - 128 = c.val; omega)
    rw [e]
  pointwise [part]
  simp only [hrid]
  simp only [h0, h1, h2]

/-- The value carried at a round's start: twice the round's number. -/
theorem round_value (k : ℕ) (hk : k < 512) :
    (Scalar.sitofp .f32 (Scalar.muli 2#32 (Scf.iv 0#32 1#32 k)) : Ideal .f32) = (((2 * k : ℕ) : ℝ) : EReal) := by
  have h : (Scalar.muli 2#32 (Scf.iv 0#32 1#32 k)).toInt = ((2 * k : ℕ) : ℤ) := by
    have e : Scalar.muli 2#32 (Scf.iv 0#32 1#32 k) = BitVec.ofNat 32 (2 * k) := by
      apply BitVec.eq_of_toNat_eq
      simp [Scalar.muli, IntOp.muli, Scf.iv]
    rw [e, toInt_ofNat_of_lt (by omega)]
  show (((Scalar.muli 2#32 (Scf.iv 0#32 1#32 k)).toInt : ℝ) : EReal) = _
  rw [h]
  simp

/-- The rounds take the ranks two at a time, -/
theorem t2_trips (N : ℕ) (hN : N ≤ 512) : (k0_t2_loop (BitVec.ofNat 32 N)).trips = (N + 1) / 2 := by
  have h : ∀ N : Fin 513, (k0_t2_loop (BitVec.ofNat 32 N.val)).trips = (N.val + 1) / 2 := by decide +kernel
  exact h ⟨N, by omega⟩

/-- and leave none over. -/
theorem t3_trips (N : ℕ) (hN : N ≤ 512) : (k0_t3_loop (BitVec.ofNat 32 N)).trips = 0 := by
  have h : ∀ N : Fin 513, (k0_t3_loop (BitVec.ofNat 32 N.val)).trips = 0 := by decide +kernel
  exact h ⟨N, by omega⟩

/-- The rounds together gather, in every row, every member's hidden state. -/
theorem poolFold_apply (m : Fin 2048 → Fin 512 → Prop) (rid : FVec Ideal S2048x512 .f32) (hrid : ∀ r j, rid (ix2 r j) = Spec.rid (m r) j)
    (ht : FVec Ideal S512x128 .f32) (hh : ∀ j c, ht (ix2 j c) ≠ ⊤) (r : Fin 2048) (c : Fin 128) :
    poolFold rid (k0_pay22 ht) ((Spec.rounds m : ℝ) : EReal) (BitVec.ofNat 32 (Spec.rounds m)) (ix2 r c)
      = ∑ j, if m r j then ht (ix2 j c) else 0 := by
  have hN := Spec.rounds_le m
  unfold poolFold
  rw [fold_none (t3_trips _ hN)]
  have key := fold_inv (fun (k : Fin (k0_t2_loop (BitVec.ofNat 32 (Spec.rounds m))).trips) a =>
      k0_pay25 rid (BitVec.ofNat 32 (Spec.rounds m)) (k0_pay22 ht) ((Spec.rounds m : ℝ) : EReal) k a) k0_pay24
    (fun k a => ∀ r c, a (ix2 r c) = Spec.below (m r) (fun j => ht (ix2 j c)) (2 * k)) ?_ ?_
  · have := key r c
    rw [this, t2_trips _ hN]
    refine Spec.below_all _ _ _ fun x hx => ?_
    have := Spec.rank_lt_rounds m hx
    omega
  · intro r c
    rw [Nat.mul_zero, Spec.below_zero]
    pointwise [k0_pay24]
  · intro k a ha r c
    have hk : k.val < (Spec.rounds m + 1) / 2 := (k.isLt).trans_eq (t2_trips _ hN)
    have h1 : (Scalar.addf (((2 * k.val : ℕ) : ℝ) : EReal) (Scalar.ofBits .f32 0x3F800000#32) : Ideal .f32) = (((2 * k.val + 1 : ℕ) : ℝ) : EReal) := by
      show (((2 * k.val : ℕ) : ℝ) : EReal) + Ideal.ofBits .f32 0x3F800000#32 = _
      have : Ideal.ofBits .f32 0x3F800000#32 = ((1 : ℝ) : EReal) := by
        simp [Ideal.ofBits, Ideal.ieee, -EReal.coe_mul, -EReal.coe_neg]; norm_num
      rw [this, ← EReal.coe_add]
      push_cast
      rfl
    have h2 : (Scalar.cmpf (F := Ideal) (φ := .f32) .olt (((2 * k.val + 1 : ℕ) : ℝ) : EReal) ((Spec.rounds m : ℝ) : EReal) : BitVec 1)
        = BitVec.ofBool (decide (2 * k.val + 1 < Spec.rounds m)) := by
      show BitVec.ofBool (decide _) = _
      refine bits_congr ?_
      rw [EReal.coe_lt_coe_iff, Nat.cast_lt]
    rw [pay25_eq, round_value _ (by omega)]
    simp only [h1, h2, bits_select]
    have e : 2 * (k.val + 1) = 2 * k.val + 1 + 1 := by omega
    rw [e, Spec.below_succ, Spec.below_succ, ← ha r c, ← part_apply m rid hrid ht hh (2 * k.val) r c]
    show a (ix2 r c) + part rid (k0_pay22 ht) _ (ix2 r c) + (ite _ _ _ : FVec Ideal S2048x128 .f32) (ix2 r c) = _
    refine congrArg (fun z : EReal => a (ix2 r c) + part rid (k0_pay22 ht) (((2 * k.val : ℕ) : ℝ) : EReal) (ix2 r c) + z) ?_
    by_cases hlt : 2 * k.val + 1 < Spec.rounds m
    · rw [if_pos hlt, part_apply m rid hrid ht hh]
    · rw [if_neg hlt, Spec.ofRank_none _ _ _ fun x hx => by have := Spec.rank_lt_rounds m hx; omega]
      pointwise

section Pool
variable (sc : Fin 512 → BitVec 32) (pp : Fin 512 → Fin 2 → EReal) (v17 : IVec S512x512 1) (rx ry : FVec Ideal S512x512 .f32)
  (hx : ∀ i j, rx (ix2 i j) = Spec.rel pp i j 0) (hy : ∀ i j, ry (ix2 i j) = Spec.rel pp i j 1)
  (hv : ∀ i j, v17 (ix2 i j) = BitVec.ofBool (decide (sc i = sc j ∧ i ≠ j)))

include hx hy hv in
/-- One more than the greatest rank is the number of rounds. -/
theorem count_eq : k0_pay43 (k0_pay42 k0_pay51 v17 rx ry (within rx ry)) = ((Spec.rounds (mem sc pp) : ℝ) : EReal) := by
  have hr := rid_apply sc pp v17 rx ry hx hy hv
  have e : ∀ x : Fin 2048 × Fin 512, k0_pay42 k0_pay51 v17 rx ry (within rx ry) (ix3 0 x.1 x.2) = Spec.rid (mem sc pp x.1) x.2 := by
    intro x
    rw [← hr]
    have e' : k0_pay42 k0_pay51 v17 rx ry (within rx ry) = shapeCast S1x2048x512 (k0_pay39 k0_pay51 v17 rx ry (within rx ry)) shapeCasts_S2048x512_S1x2048x512 := rfl
    rw [e']
    pointwise
  rw [← Spec.fold_max_rid (mem sc pp) _ e]
  pointwise [k0_pay43]
  rw [Spec.neg_inf]

include hx hy hv in
/-- The pooling at a row and a coordinate. -/
theorem pool_apply (W : Wts Ideal) (h10 : W.v10 = k0_pay51) (h17 : W.v17 = v17) (ht : FVec Ideal S512x128 .f32) (hh : ∀ j c, ht (ix2 j c) ≠ ⊤)
    (r : Fin 2048) (c : Fin 128) :
    pool W rx ry ht (ix2 r c) = Spec.pooled sc pp (fun j c => ht (ix2 j c)) ⟨r.val % 512, Nat.mod_lt _ (by omega)⟩ (r.val / 512) c := by
  unfold pool
  rw [h10, h17, count_eq sc pp v17 rx ry hx hy hv]
  have e : Scalar.fptosi (F := Ideal) (φ := .f32) 32 ((Spec.rounds (mem sc pp) : ℝ) : EReal) = BitVec.ofNat 32 (Spec.rounds (mem sc pp)) :=
    fptosi_nat _ (Spec.rounds_le _)
  erw [e]
  rw [poolFold_apply (mem sc pp) _ (rid_apply sc pp v17 rx ry hx hy hv) ht hh]
  exact Finset.sum_congr rfl fun j _ => if_congr Iff.rfl rfl rfl

end Pool

end Cert.Proof.KernelIdeal
-- ==== Proof.KernelStep.lean ====
/-
  The kernel's steps at the ideal values, at an index: the states after a step, the outputs and the positions are the ones the
  formulas of `Spec` give.
-/
module

public import proofs.«01_k».proof.Proof.KernelPool

@[expose] public section

set_option maxRecDepth 16384

noncomputable section

open Classical

namespace Cert.Proof.KernelIdeal

open Cert.KernelIdeal Cert.KernelIdeal.Gen
open Idealize.ShloMosaic

/-- The values read once are the weights `S`, the input-to-hidden and hidden-to-hidden biases already added. -/
structure Fits (W : Wts Ideal) (S : Spec.Weights) : Prop where
  v10 : W.v10 = k0_pay51
  v17 : ∀ i j, W.v17 (ix2 i j) = BitVec.ofBool (decide (S.scene i = S.scene j ∧ i ≠ j))
  v20 : ∀ x e, W.v20 (ix2 x e) = S.wpos e x
  v22 : ∀ e, W.v22 (ix2 0 e) = S.bpos e
  v25 : ∀ x e, W.v25 (ix2 x e) = S.wsoc e x
  v27 : ∀ e, W.v27 (ix2 0 e) = S.bsoc e
  v30 : ∀ x e, W.v30 (ix2 x e) = S.wih e x
  v33 : ∀ x e, W.v33 (ix2 x e) = S.whh e x
  v35 : ∀ e, W.v35 (ix2 0 e) = S.bih e + S.bhh e

section Step
variable {W : Wts Ideal} {S : Spec.Weights} (hW : Fits W S) {pp R : Fin 512 → Fin 2 → EReal} {H C : Fin 512 → Fin 128 → EReal}
  {ht ct : FVec Ideal S512x128 .f32} (hh : ∀ i e, ht (ix2 i e) = H i e) (hc : ∀ i e, ct (ix2 i e) = C i e)
  {r : FVec Ideal S512x2 .f32} (hr : ∀ i k, r (ix2 i k) = R i k)
  {acc : FVec Ideal S2048x128 .f32}
  (ha : ∀ (q : Fin 2048) c, acc (ix2 q c) = Spec.pooled S.scene pp H ⟨q.val % 512, Nat.mod_lt _ (by omega)⟩ (q.val / 512) c)

include ha in
/-- The four cells' rows set side by side. -/
theorem cells_apply (i x : Fin 512) :
    (if h : x.val < 128 then acc (ix2 ⟨i.val, by omega⟩ ⟨x.val, h⟩)
      else if h2 : x.val - 128 < 128 then acc (ix2 ⟨512 + i.val, by omega⟩ ⟨x.val - 128, h2⟩)
      else if h3 : x.val - 128 - 128 < 128 then acc (ix2 ⟨1024 + i.val, by omega⟩ ⟨x.val - 128 - 128, h3⟩)
      else acc (ix2 ⟨1536 + i.val, by omega⟩ ⟨x.val - 128 - 128 - 128, by omega⟩))
      = Spec.pooled S.scene pp H i (x.val / 128) ⟨x.val % 128, Nat.mod_lt _ (by omega)⟩ := by
  have key : ∀ (q : Fin 2048) (c : Fin 128), q.val % 512 = i.val → q.val / 512 = x.val / 128 → c.val = x.val % 128 →
      acc (ix2 q c) = Spec.pooled S.scene pp H i (x.val / 128) ⟨x.val % 128, Nat.mod_lt _ (by omega)⟩ := by
    intro q c h1 h2 h3
    rw [ha, h2]
    congr 1
    · exact Fin.ext h1
    · exact Fin.ext h3
  have hi := i.isLt
  have hx := x.isLt
  by_cases h1 : x.val < 128
  · rw [dif_pos h1]; exact key _ _ (by show i.val % 512 = _; omega) (by show i.val / 512 = _; omega) (by show x.val = _; omega)
  rw [dif_neg h1]
  by_cases h2 : x.val - 128 < 128
  · rw [dif_pos h2]; exact key _ _ (by show (512 + i.val) % 512 = _; omega) (by show (512 + i.val) / 512 = _; omega) (by show x.val - 128 = _; omega)
  rw [dif_neg h2]
  by_cases h3 : x.val - 128 - 128 < 128
  · rw [dif_pos h3]; exact key _ _ (by show (1024 + i.val) % 512 = _; omega) (by show (1024 + i.val) / 512 = _; omega) (by show x.val - 128 - 128 = _; omega)
  rw [dif_neg h3]
  exact key _ _ (by show (1536 + i.val) % 512 = _; omega) (by show (1536 + i.val) / 512 = _; omega) (by show x.val - 128 - 128 - 128 = _; omega)

include hW ha in
/-- The embedding of the pooled hidden states. -/
theorem soc_apply (i : Fin 512) (e : Fin 64) : k0_pay47 W.v25 W.v27 acc (ix2 i e) = Spec.soc S pp H i e := by
  unfold Spec.soc
  rw [← hW.v27]
  pointwise [k0_pay47]
  refine congrArg (fun z => max (z + _) 0) (Finset.sum_congr rfl fun x _ => ?_)
  rw [hW.v25]
  exact congrArg (· * _) (cells_apply ha i x)

include hW hr in
/-- The product of the displacement with its weights. -/
theorem pos_apply (i : Fin 512) (e : Fin 64) : k0_pay48 W.v20 r (ix2 i e) = ∑ x, R i x * S.wpos e x := by
  pointwise [k0_pay48]
  exact Finset.sum_congr rfl fun x _ => by rw [hr, hW.v20]

include hW hh hr ha in
/-- The gates. -/
theorem gates_apply (i q : Fin 512) :
    k0_pay8 W.v22 W.v30 W.v33 W.v35 ht (k0_pay47 W.v25 W.v27 acc) (k0_pay48 W.v20 r) (ix2 i q) = Spec.gates S pp R H i q := by
  have h1 := pos_apply hW hr
  have h2 := soc_apply hW ha
  generalize k0_pay47 W.v25 W.v27 acc = a at h2 ⊢
  generalize k0_pay48 W.v20 r = b at h1 ⊢
  pointwise [k0_pay8]
  simp only [h1, h2, hh, hW.v22, hW.v30, hW.v33, hW.v35]
  unfold Spec.gates Spec.et
  ac_rfl

include hW hh hc hr ha in
/-- The cell state after a step, -/
theorem newC_apply (i : Fin 512) (e : Fin 128) :
    k0_pay9 W.v22 W.v30 W.v33 W.v35 ht ct (k0_pay47 W.v25 W.v27 acc) (k0_pay48 W.v20 r) (ix2 i e) = Spec.newC S pp R H C i e := by
  have h := gates_apply hW hh hr ha
  generalize k0_pay47 W.v25 W.v27 acc = a at h ⊢
  generalize k0_pay48 W.v20 r = b at h ⊢
  pointwise [k0_pay9]
  simp only [h, hc]
  rfl

include hW hh hc hr ha in
/-- and the hidden state. -/
theorem newH_apply (i : Fin 512) (e : Fin 128) :
    k0_pay10 W.v22 W.v30 W.v33 W.v35 ht ct (k0_pay47 W.v25 W.v27 acc) (k0_pay48 W.v20 r) (ix2 i e) = Spec.newH S pp R H C i e := by
  have h := gates_apply hW hh hr ha
  have h' := newC_apply hW hh hc hr ha
  generalize k0_pay47 W.v25 W.v27 acc = a at h h' ⊢
  generalize k0_pay48 W.v20 r = b at h h' ⊢
  unfold Spec.newH
  rw [← h, ← h']
  pointwise [k0_pay10]

end Step

/-! ## A past step -/

/-- A past step's hidden state, from its pooled sums, -/
theorem encStep_fst (W : Wts Ideal) (p : Vec Ideal S1x512x2 .f32) (q : Vec Ideal S1x2x512 .f32) (r : Vec Ideal S1x512x2 .f32) (s : FVec Ideal S512x128 .f32 × FVec Ideal S512x128 .f32) :
    (encStep W p q r s).1 = k0_pay10 W.v22 W.v30 W.v33 W.v35 s.1 s.2 (k0_pay47 W.v25 W.v27 (encAcc W p q s.1)) (k0_pay48 W.v20 (k0_pay13 r)) := rfl

/-- and its cell state. -/
theorem encStep_snd (W : Wts Ideal) (p : Vec Ideal S1x512x2 .f32) (q : Vec Ideal S1x2x512 .f32) (r : Vec Ideal S1x512x2 .f32) (s : FVec Ideal S512x128 .f32 × FVec Ideal S512x128 .f32) :
    (encStep W p q r s).2 = k0_pay9 W.v22 W.v30 W.v33 W.v35 s.1 s.2 (k0_pay47 W.v25 W.v27 (encAcc W p q s.1)) (k0_pay48 W.v20 (k0_pay13 r)) := rfl

section Enc
variable {W : Wts Ideal} {S : Spec.Weights} (hW : Fits W S) {pp R : Fin 512 → Fin 2 → EReal} {H C : Fin 512 → Fin 128 → EReal}
  {s : FVec Ideal S512x128 .f32 × FVec Ideal S512x128 .f32} (hh : ∀ i e, s.1 (ix2 i e) = H i e) (hc : ∀ i e, s.2 (ix2 i e) = C i e)
  (hH : ∀ i e, H i e ≠ ⊤)
  {p : Vec Ideal S1x512x2 .f32} {q : Vec Ideal S1x2x512 .f32} {r : Vec Ideal S1x512x2 .f32}
  (hp : ∀ i k, p (ix3 0 i k) = pp i k) (hq : ∀ k i, q (ix3 0 k i) = pp i k) (hr : ∀ i k, r (ix3 0 i k) = R i k)

include hW hh hH hp hq in
/-- A past step's pooled sums, cell above cell, are the formula's. -/
theorem encAcc_apply (k : Fin 2048) (c : Fin 128) :
    encAcc W p q s.1 (ix2 k c) = Spec.pooled S.scene pp H ⟨k.val % 512, Nat.mod_lt _ (by omega)⟩ (k.val / 512) c := by
  have hH' : ∀ i e, s.1 (ix2 i e) ≠ ⊤ := fun i e => by rw [hh]; exact hH i e
  have e : (fun j c => s.1 (ix2 j c)) = H := by funext j c; exact hh j c
  rw [encAcc_eq, pool_apply S.scene pp W.v17 _ _ ?_ ?_ hW.v17 W hW.v10 rfl s.1 hH', e]
  · intro i j
    pointwise [k0_pay14, k0_pay11, k0_pay12]
    rw [hp, hq]; rfl
  · intro i j
    pointwise [k0_pay15, k0_pay11, k0_pay12]
    rw [hp, hq]; rfl

/-- The displacements a past step reads, without the leading axis of one. -/
theorem pay13_apply (r : Vec Ideal S1x512x2 .f32) (i : Fin 512) (k : Fin 2) : k0_pay13 r (ix2 i k) = r (ix3 0 i k) := by
  pointwise [k0_pay13]

include hW hh hc hH hp hq hr in
/-- The hidden state after a past step, -/
theorem encStep_h (i : Fin 512) (e : Fin 128) : (encStep W p q r s).1 (ix2 i e) = Spec.newH S pp R H C i e := by
  rw [encStep_fst]
  exact newH_apply hW hh hc (fun i k => (pay13_apply r i k).trans (hr i k)) (encAcc_apply hW hh hH hp hq) i e

include hW hh hc hH hp hq hr in
/-- and the cell state. -/
theorem encStep_c (i : Fin 512) (e : Fin 128) : (encStep W p q r s).2 (ix2 i e) = Spec.newC S pp R H C i e := by
  rw [encStep_snd]
  exact newC_apply hW hh hc (fun i k => (pay13_apply r i k).trans (hr i k)) (encAcc_apply hW hh hH hp hq) i e

end Enc

/-! ## A predicted step -/

section Dec
variable {W : Wts Ideal} {S : Spec.Weights} (hW : Fits W S) {pp : Fin 512 → Fin 2 → EReal} {H C : Fin 512 → Fin 128 → EReal}
  {v46 : Vec Ideal S128x5 .f32} {v49 : Vec Ideal S1x5 .f32} (h46 : ∀ x e, v46 (ix2 x e) = S.wpred e x) (h49 : ∀ e, v49 (ix2 0 e) = S.bpred e)
  {s : FVec Ideal S512x128 .f32 × FVec Ideal S512x128 .f32 × FVec Ideal S512x2 .f32}
  (hh : ∀ i e, s.1 (ix2 i e) = H i e) (hc : ∀ i e, s.2.1 (ix2 i e) = C i e) (hp : ∀ i k, s.2.2 (ix2 i k) = pp i k)
  (hH : ∀ i e, H i e ≠ ⊤)

/-- The position after a predicted step. -/
def nextPos (S : Spec.Weights) (H : Fin 512 → Fin 128 → EReal) (pp : Fin 512 → Fin 2 → EReal) (i : Fin 512) (k : Fin 2) : EReal :=
  pp i k + Spec.outRel S H i k

include h46 h49 hh in
/-- A predicted step's output, -/
theorem out_apply (i : Fin 512) (e : Fin 5) : k0_pay30 (k0_pay5 v46) (k0_pay6 v49) s.1 (ix2 i e) = Spec.out S H i e := by
  pointwise [k0_pay30, k0_pay5, k0_pay6]
  simp only [hh, h46, h49]
  rfl

include h46 h49 hh in
/-- its displacement, -/
theorem outRel_apply (i : Fin 512) (k : Fin 2) : k0_pay32 (k0_pay5 v46) (k0_pay6 v49) s.1 (ix2 i k) = Spec.outRel S H i k := by
  have h := out_apply h46 h49 hh
  unfold Spec.outRel
  rw [← h]
  pointwise [k0_pay32]

include h46 h49 hh hp in
/-- and its position. -/
theorem pos'_apply (i : Fin 512) (k : Fin 2) : k0_pay33 (k0_pay5 v46) (k0_pay6 v49) s.1 s.2.2 (ix2 i k) = nextPos S H pp i k := by
  have h := outRel_apply h46 h49 hh
  unfold nextPos
  rw [← h, ← hp]
  pointwise [k0_pay33]

/-- A sum over the diagonal table picks one entry. -/
theorem eye_sum (v : Fin 512 → EReal) (e : Fin 512) :
    ∑ x : Fin 512, Scalar.select (IntOp.cmpi .ne (BitVec.ofNat 32 x.val) (BitVec.ofNat 32 e.val)) 0 1 * v x = v e := by
  rw [Finset.sum_eq_single e]
  · simp [IntOp.cmpi, Scalar.select]
  · intro x _ hx
    have : BitVec.ofNat 32 x.val ≠ BitVec.ofNat 32 e.val := by
      intro hh
      have := congrArg BitVec.toNat hh
      simp at this
      exact hx (Fin.ext (by omega))
    have hb : (BitVec.ofNat 32 x.val != BitVec.ofNat 32 e.val) = true := bne_iff_ne.2 this
    simp [IntOp.cmpi, Scalar.select, hb]
  · simp

include h46 h49 hh hp in
/-- The table of first coordinates of the displacements between agents, -/
theorem rx_apply (i j : Fin 512) :
    k0_pay36 k0_pay50 (k0_pay5 v46) (k0_pay6 v49) s.1 s.2.2 (ix2 i j) = Spec.rel (nextPos S H pp) i j 0 := by
  have h := pos'_apply h46 h49 hh hp
  unfold Spec.rel
  rw [← h, ← h, ← eye_sum (fun x => k0_pay33 (k0_pay5 v46) (k0_pay6 v49) s.1 s.2.2 (ix2 x 0))]
  pointwise [k0_pay36, k0_pay35, k0_pay50, k0_pay49]

include h46 h49 hh hp in
/-- and of the second ones. -/
theorem ry_apply (i j : Fin 512) :
    k0_pay37 k0_pay50 (k0_pay5 v46) (k0_pay6 v49) s.1 s.2.2 (ix2 i j) = Spec.rel (nextPos S H pp) i j 1 := by
  have h := pos'_apply h46 h49 hh hp
  unfold Spec.rel
  rw [← h, ← h, ← eye_sum (fun x => k0_pay33 (k0_pay5 v46) (k0_pay6 v49) s.1 s.2.2 (ix2 x 1))]
  pointwise [k0_pay37, k0_pay35, k0_pay50, k0_pay49]

include hW h46 h49 hh hp hH in
/-- A predicted step's pooled sums are the formula's. -/
theorem decAcc_apply (k : Fin 2048) (c : Fin 128) :
    decAcc W k0_pay50 v46 v49 s.1 s.2.2 (ix2 k c) = Spec.pooled S.scene (nextPos S H pp) H ⟨k.val % 512, Nat.mod_lt _ (by omega)⟩ (k.val / 512) c := by
  have hH' : ∀ i e, s.1 (ix2 i e) ≠ ⊤ := fun i e => by rw [hh]; exact hH i e
  have e : (fun j c => s.1 (ix2 j c)) = H := by funext j c; exact hh j c
  rw [decAcc_eq, pool_apply S.scene (nextPos S H pp) W.v17 _ _ (rx_apply h46 h49 hh hp) (ry_apply h46 h49 hh hp) hW.v17 W hW.v10 rfl s.1 hH', e]

include hW h46 h49 hh hc hp hH in
/-- The hidden state after a predicted step, -/
theorem decStep_h (i : Fin 512) (e : Fin 128) :
    (decStep W k0_pay50 v46 v49 s).1 (ix2 i e) = Spec.newH S (nextPos S H pp) (Spec.outRel S H) H C i e :=
  newH_apply hW hh hc (outRel_apply h46 h49 hh) (decAcc_apply hW h46 h49 hh hp hH) i e

include hW h46 h49 hh hc hp hH in
/-- the cell state, -/
theorem decStep_c (i : Fin 512) (e : Fin 128) :
    (decStep W k0_pay50 v46 v49 s).2.1 (ix2 i e) = Spec.newC S (nextPos S H pp) (Spec.outRel S H) H C i e :=
  newC_apply hW hh hc (outRel_apply h46 h49 hh) (decAcc_apply hW h46 h49 hh hp hH) i e

include h46 h49 hh hp in
/-- and the position. -/
theorem decStep_p (i : Fin 512) (k : Fin 2) : (decStep W k0_pay50 v46 v49 s).2.2 (ix2 i k) = nextPos S H pp i k :=
  pos'_apply h46 h49 hh hp i k

end Dec

end Cert.Proof.KernelIdeal
-- ==== Proof.RefStep.lean ====
/-
  The reference's step at the ideal values, at an index: the states after a step, the outputs and the positions are the ones the
  formulas of `Spec` give.
-/
module

public import proofs.«01_k».proof.Proof.Gen.ReferenceIdeal.Step
public import proofs.«01_k».proof.Proof.Spec
public import Idealize.ShloMosaic.Lib.Pointwise
public import Idealize.ShloMosaic.Lib.DynamicIndex
public import Idealize.ShloMosaic.Lib.Routing.OpsPair

@[expose] public section

set_option maxRecDepth 16384

noncomputable section

open Classical

namespace Cert.Proof.ReferenceIdeal

open Cert.ReferenceIdeal Cert.ReferenceIdeal.Gen
open Idealize.ShloMosaic
open Cert.ReferenceIdeal.Step

/-- The weights a step reads. -/
def weights (s : State Ideal) : Spec.Weights where
  scene i := s.main_v10_5 (ix1 i)
  wpos e x := s.main_v10_6 (ix2 e x)
  bpos e := s.main_v10_7 (ix1 e)
  wsoc e x := s.main_v10_8 (ix2 e x)
  bsoc e := s.main_v10_9 (ix1 e)
  wih e x := s.main_v10_10 (ix2 e x)
  bih e := s.main_v10_11 (ix1 e)
  whh e x := s.main_v10_12 (ix2 e x)
  bhh e := s.main_v10_13 (ix1 e)
  wpred e x := s.main_v10_1 (ix2 e x)
  bpred e := s.main_v10_2 (ix1 e)

/-- The hidden and the cell states a step starts from. -/
def hid (s : State Ideal) (i : Fin 512) (e : Fin 128) : EReal := s.main_v10_15 (ix2 i e)
/-- The cell states a step starts from. -/
def cel (s : State Ideal) (i : Fin 512) (e : Fin 128) : EReal := s.main_v10_16 (ix2 i e)

/-- The displacement step `t` uses: the observed one, or the predicted one. -/
def disp (t : ℕ) (s : State Ideal) (i : Fin 512) (k : Fin 2) : EReal :=
  if h : t < 8 then s.main_v10_3 (ix3 i ⟨t, h⟩ k) else Spec.outRel (weights s) (hid s) i k

/-- The position step `t` uses: the observed one, or the last one moved by the predicted displacement. -/
def posn (t : ℕ) (s : State Ideal) (i : Fin 512) (k : Fin 2) : EReal :=
  if h : t < 8 then s.main_v10_4 (ix3 i ⟨t, h⟩ k) else s.main_v10_17 (ix2 i k) + Spec.outRel (weights s) (hid s) i k

section Step
variable (t : ℕ) (ht : t < 20) (s : State Ideal)

/-! ## The step's number -/

include ht in
/-- The step's number, read off the table of numbers. -/
theorem b1_eq : b1 t s = constantI S_ 32 (BitVec.ofNat 32 t) := by
  have hs : S20.Slices ![t] S1 := ⟨rfl, fun a => match a with | ⟨0, _⟩ => by show t + 1 ≤ 20; omega⟩
  have e : b0 t s = extractStridedSlice S1 ![t] (K_main_v9 (F := Ideal)) hs := by
    unfold b0
    refine Idealize.ShloMosaic.Host.dynamicSlice_eq_extractStridedSlice _ _ _ _ _ hs fun a => ?_
    match a with
    | ⟨0, _⟩ => exact toInt_ofNat_of_lt (by omega)
  funext j
  rw [show j = ix0 from Subsingleton.elim _ _]
  unfold b1
  rw [e]
  pointwise [K_main_v9]

/-- Whether the step is a past one. -/
theorem b8_eq (ht : t < 20) : b8 t s ix0 = BitVec.ofBool (decide (t < 8)) := by
  unfold b8 b7
  rw [b1_eq t ht s]
  show BitVec.ofBool (BitVec.slt (BitVec.ofNat 32 t) 8#32) = _
  rw [BitVec.slt_eq_decide, toInt_ofNat_of_lt (by omega)]
  congr 1
  have : (8#32 : BitVec 32).toInt = 8 := by decide
  rw [this]
  simp

/-- A selection by a truth value's bit. -/
theorem bits_select {α : Type} {p : Prop} [Decidable p] (a b : α) : Scalar.select (BitVec.ofBool (decide p)) a b = if p then a else b := by
  by_cases hp : p <;> simp [hp, Scalar.select]

/-- The conjunction of two truth values, as bits. -/
theorem bits_and {p q : Prop} [Decidable p] [Decidable q] :
    IntOp.andi (BitVec.ofBool (decide p)) (BitVec.ofBool (decide q)) = BitVec.ofBool (decide (p ∧ q)) := by
  by_cases hp : p <;> by_cases hq : q <;> simp [hp, hq, IntOp.andi]

/-! ## The displacement and the position -/

/-- The output predicted from the hidden state a step starts from. -/
theorem b6_apply (i : Fin 512) (e : Fin 5) : b6 t s (ix2 i e) = Spec.out (weights s) (hid s) i e := by
  pointwise [b6, b5, b4, b3, b2]
  rfl

/-- A past step's slice lies inside the trajectory. -/
theorem slices8 (h8 : t < 8) : S512x8x2.Slices ![0, t, 0] S512x1x2 := ⟨rfl, fun a => match a with
  | ⟨0, _⟩ => by show 0 + 512 ≤ 512; omega
  | ⟨1, _⟩ => by show t + 1 ≤ 8; omega
  | ⟨2, _⟩ => by show 0 + 2 ≤ 2; omega⟩

/-- The index a past step reads the displacements at is its number, -/
theorem b13_eq (h8 : t < 8) (j : S_.Idx) : (b13 t s j).toInt = t := by
  unfold b13 b10 b9
  rw [select_slt_zero_of_nonneg]
  · rw [b1_eq t (by omega) s]; exact toInt_ofNat_of_lt (by omega)
  · rw [b1_eq t (by omega) s]; show 0 ≤ (BitVec.ofNat 32 t).toInt; rw [toInt_ofNat_of_lt (by omega)]; omega

/-- and so is the one it reads the positions at. -/
theorem b24_eq (h8 : t < 8) (j : S_.Idx) : (b24 t s j).toInt = t := b13_eq t s h8 j

/-- What a past step reads of the displacements, -/
theorem b17_apply (h8 : t < 8) (i : Fin 512) (k : Fin 2) : b17 t s (ix2 i k) = s.main_v10_3 (ix3 i ⟨t, h8⟩ k) := by
  have e : b16 t s = extractStridedSlice S512x1x2 ![0, t, 0] s.main_v10_3 (slices8 t h8) := by
    unfold b16
    refine Idealize.ShloMosaic.Host.dynamicSlice_eq_extractStridedSlice _ _ _ _ _ _ fun a => ?_
    match a with
    | ⟨0, _⟩ => rfl
    | ⟨1, _⟩ => exact b13_eq t s h8 _
    | ⟨2, _⟩ => rfl
  unfold b17
  rw [e]
  pointwise

/-- and of the positions. -/
theorem b28_apply (h8 : t < 8) (i : Fin 512) (k : Fin 2) : b28 t s (ix2 i k) = s.main_v10_4 (ix3 i ⟨t, h8⟩ k) := by
  have e : b27 t s = extractStridedSlice S512x1x2 ![0, t, 0] s.main_v10_4 (slices8 t h8) := by
    unfold b27
    refine Idealize.ShloMosaic.Host.dynamicSlice_eq_extractStridedSlice _ _ _ _ _ _ fun a => ?_
    match a with
    | ⟨0, _⟩ => rfl
    | ⟨1, _⟩ => exact b24_eq t s h8 _
    | ⟨2, _⟩ => rfl
  unfold b28
  rw [e]
  pointwise

include ht in
/-- The displacement a step uses, -/
theorem b19_apply (i : Fin 512) (k : Fin 2) : b19 t s (ix2 i k) = disp t s i k := by
  have h6 := b6_apply t s
  pointwise [b19, b18]
  rw [b8_eq t s ht, bits_select]
  unfold disp
  by_cases h8 : t < 8
  · rw [if_pos h8, dif_pos h8, b17_apply t s h8]
  · rw [if_neg h8, dif_neg h8, h6]
    rfl

include ht in
/-- and the position. -/
theorem b30_apply (i : Fin 512) (k : Fin 2) : b30 t s (ix2 i k) = posn t s i k := by
  have h19 := b19_apply t ht s i k
  pointwise [b30, b29]
  rw [b8_eq t s ht, bits_select, h19]
  unfold posn disp
  by_cases h8 : t < 8
  · rw [if_pos h8, dif_pos h8, b28_apply t s h8]
  · rw [if_neg h8, dif_neg h8, dif_neg h8]

include ht in
/-- The displacements between agents. -/
theorem b35_apply (i j : Fin 512) (k : Fin 2) : b35 t s (ix3 i j k) = Spec.rel (posn t s) i j k := by
  unfold Spec.rel
  rw [← b30_apply t ht s, ← b30_apply t ht s]
  pointwise [b35, b34, b33, b32, b31]

/-! ## The neighbours and their cells -/

/-- A truth value's bit as a number. -/
theorem uitofp_bits {p : Prop} [Decidable p] : (FloatOps.uitofp .f32 (BitVec.ofBool (decide p)) : Ideal .f32) = if p then (1 : EReal) else 0 := by
  show (((BitVec.ofBool (decide p)).toNat : ℝ) : EReal) = _
  by_cases hp : p <;> simp [hp]

/-- The diagonal's bit. -/
theorem eye_bits (i e : Fin 512) : IntOp.cmpi .eq (IntOp.addi (BitVec.ofNat 32 i.val) 0#32) (BitVec.ofNat 32 e.val) = BitVec.ofBool (decide (i = e)) := by
  show BitVec.ofBool ((BitVec.ofNat 32 i.val + 0#32) == BitVec.ofNat 32 e.val) = _
  congr 1
  rw [Bool.eq_iff_iff, beq_iff_eq, decide_eq_true_iff, BitVec.add_zero]
  constructor
  · intro hh
    have := congrArg BitVec.toNat hh
    simp at this
    exact Fin.ext (by omega)
  · rintro rfl; rfl

/-- An equality's bit. -/
theorem eq_bits (a b : BitVec 32) : IntOp.cmpi .eq a b = BitVec.ofBool (decide (a = b)) := by
  show BitVec.ofBool (a == b) = _
  congr 1

/-- An indicator less another, cut at zero. -/
theorem mask_value (p q : Prop) {d1 : Decidable p} {d2 : Decidable q} {d3 : Decidable (p ∧ ¬q)} :
    max ((if p then (1 : EReal) else 0) - (if q then 1 else 0)) 0 = if p ∧ ¬q then 1 else 0 := by
  have h : (1 : EReal) - 1 = 0 := by rw [← EReal.coe_one, ← EReal.coe_sub, sub_self, EReal.coe_zero]
  by_cases hp : p <;> by_cases hq : q <;> simp [hp, hq, h]

include ht in
/-- The mask is one at the neighbours and zero elsewhere. -/
theorem b76_apply (i e : Fin 512) :
    b76 t s (ix2 i e) = if Spec.near (weights s).scene (posn t s) i e then 1 else 0 := by
  have h := b35_apply t ht s i e
  pointwise [b36, b37, b38, b39, b40, b41, b42, b43, b44, b45, b46, b47, b48, b49, b50, b51, b52, b53, b54, b55, b56, b57, b58, b59, b60, b61, b62, b63, b64, b65, b66, b67, b68, b69, b70, b71, b72, b73, b74, b75, b76]
  rw [eye_bits]
  simp only [h, eq_bits, bits_and, uitofp_bits]
  have en : Spec.near (weights s).scene (posn t s) i e ↔ (((((Spec.rel (posn t s) i e 0 < Ideal.ofBits .f32 0x3F7D70A4#32 ∧ Ideal.ofBits .f32 0xBF7D70A4#32 < Spec.rel (posn t s) i e 0) ∧ Spec.rel (posn t s) i e 1 < Ideal.ofBits .f32 0x3F7D70A4#32) ∧ Ideal.ofBits .f32 0xBF7D70A4#32 < Spec.rel (posn t s) i e 1) ∧ s.main_v10_5 (ix1 i) = s.main_v10_5 (ix1 e)) ∧ ¬ i = e) := and_assoc.symm
  rw [if_congr en rfl rfl]
  exact mask_value _ _

/-- One axis' cell coordinate, inside the window. -/
theorem floor_axis (x : EReal) (h1 : x < Spec.hi) (h2 : Spec.lo < x) :
    Ideal.liftRound Int.floor (Ideal.div (x + 1) 1) = if 1 ≤ x + 1 then 1 else 0 := by
  obtain ⟨a, ha, ha'⟩ := Spec.hi_val
  obtain ⟨b, hb, hb'⟩ := Spec.lo_val
  rw [ha'] at h1
  rw [hb'] at h2
  have e1 : Ideal.div (x + 1) 1 = x + 1 := by
    unfold Ideal.div
    rw [if_neg one_ne_zero, inv_one, mul_one]
  rw [e1]
  induction x with
  | bot => exact absurd h2 (by simp)
  | top => exact absurd h1 (by simp)
  | coe r =>
    rw [EReal.coe_lt_coe_iff] at h1 h2
    have e2 : ((r : EReal) + 1) = ((r + 1 : ℝ) : EReal) := by push_cast; rfl
    rw [e2]
    show (((⌊r + 1⌋ : ℤ) : ℝ) : EReal) = _
    by_cases h : (1 : ℝ) ≤ r + 1
    · have hf : ⌊r + 1⌋ = 1 := by rw [Int.floor_eq_iff]; constructor <;> push_cast <;> linarith
      have h' : (1 : EReal) ≤ ((r + 1 : ℝ) : EReal) := by exact_mod_cast h
      rw [hf, if_pos h']; simp
    · have hf : ⌊r + 1⌋ = 0 := by rw [Int.floor_eq_iff]; rw [not_le] at h; constructor <;> push_cast <;> linarith
      have h' : ¬(1 : EReal) ≤ ((r + 1 : ℝ) : EReal) := by intro hh; exact h (by exact_mod_cast hh)
      rw [hf, if_neg h']; simp

/-- A cell's number, converted and clamped, is itself. -/
theorem clamp_nat (n : ℕ) (hn : n ≤ 3) :
    IntOp.minsi (3#32) (IntOp.maxsi (0#32) (FloatOps.fptosi (F := Ideal) (φ := .f32) 32 ((n : ℝ) : EReal))) = BitVec.ofNat 32 n := by
  have h : (FloatOps.fptosi (F := Ideal) (φ := .f32) 32 ((n : ℝ) : EReal)) = BitVec.ofNat 32 n := by
    show Ideal.fptosi 32 ((n : ℝ) : EReal) = _
    unfold Ideal.fptosi
    have h : Ideal.toIntClamped (-(2 ^ (32 - 1) : Nat)) ((2 ^ (32 - 1) : Nat) - 1) ((n : ℝ) : EReal) = (n : ℤ) := by
      show max _ (min _ (if (0 : ℝ) ≤ n then ⌊(n : ℝ)⌋ else ⌈(n : ℝ)⌉)) = _
      rw [if_pos (Nat.cast_nonneg n), Int.floor_natCast]
      norm_num
      omega
    rw [h]
    simp
  rw [h]
  interval_cases n <;> decide

include ht in
/-- A neighbour's cell. -/
theorem b101_apply (i e : Fin 512) (hn : Spec.near (weights s).scene (posn t s) i e) :
    b101 t s (ix2 i e) = BitVec.ofNat 32 (Spec.cell (posn t s) i e) := by
  have h := b35_apply t ht s i e
  have h76 := b76_apply t ht s i e
  have hle : Spec.cell (posn t s) i e ≤ 3 := by unfold Spec.cell; split_ifs <;> omega
  rw [← clamp_nat _ hle]
  pointwise [b77, b78, b79, b80, b81, b82, b83, b84, b85, b86, b87, b88, b89, b90, b91, b92, b93, b94, b95, b96, b97, b98, b99, b100, b101]
  simp only [h, h76]
  rw [if_pos hn, mul_one, floor_axis _ hn.1.1.1.1 hn.1.1.1.2, floor_axis _ hn.1.1.2 hn.1.2]
  have two : Ideal.ofBits .f32 1073741824#32 = ((2 : ℝ) : EReal) := by
    simp [Ideal.ofBits, Ideal.ieee, -EReal.coe_mul, -EReal.coe_neg]; norm_num
  rw [two]
  congr 4
  unfold Spec.cell
  split_ifs <;> norm_num
  · rw [← EReal.coe_one, ← EReal.coe_add]; norm_num

/-- Every cell is one of four. -/
theorem b101_lt (i e : Fin 512) : ∃ n : ℕ, n ≤ 3 ∧ b101 t s (ix2 i e) = BitVec.ofNat 32 n := by
  have key : ∀ w : BitVec 32, ∃ n : ℕ, n ≤ 3 ∧ IntOp.minsi (3#32) (IntOp.maxsi (0#32) w) = BitVec.ofNat 32 n := by
    intro w
    unfold IntOp.minsi IntOp.maxsi
    by_cases h0 : BitVec.slt w 0#32 = true
    · exact ⟨0, by omega, by rw [if_pos h0]; decide⟩
    · rw [if_neg h0]
      by_cases h3 : BitVec.slt 3#32 w = true
      · exact ⟨3, le_refl _, by rw [if_pos h3]⟩
      · rw [if_neg h3]
        rw [BitVec.slt_eq_decide, decide_eq_true_iff] at h0 h3
        have e0 : (0#32 : BitVec 32).toInt = 0 := by decide
        have e3 : (3#32 : BitVec 32).toInt = 3 := by decide
        rw [e0] at h0
        rw [e3] at h3
        refine ⟨w.toNat, ?_, by apply BitVec.eq_of_toNat_eq; simp⟩
        have := BitVec.toInt_eq_toNat_cond w
        have := w.isLt
        split_ifs at * <;> omega
  pointwise [b77, b78, b79, b80, b81, b82, b83, b84, b85, b86, b87, b88, b89, b90, b91, b92, b93, b94, b95, b96, b97, b98, b99, b100, b101]
  exact key _

/-! ## The scattered sums -/

/-- The scatter's row for the pair of agents `i`, `j`. -/
theorem b118_apply (i j : Fin 512) (k : Fin 262144) (hk : k.val = i.val * 512 + j.val) (e : Fin 1) :
    (b118 t s (ix2 k e)).toInt = i.val * 4 + ((b101 t s (ix2 i j)).toNat : ℤ) := by
  obtain ⟨n, hn, h⟩ := b101_lt t s i j
  have hb : k.val / 512 < 512 := Nat.div_lt_of_lt_mul k.isLt
  have hb' : k.val % 512 < 512 := Nat.mod_lt _ (by decide)
  have e1 : (⟨k.val / 512, hb⟩ : Fin 512) = i := Fin.ext (by show k.val / 512 = i.val; omega)
  have e2 : (⟨k.val % 512, hb'⟩ : Fin 512) = j := Fin.ext (by show k.val % 512 = j.val; omega)
  have h1 : b118 t s (ix2 k e) = b113 t s (ix2 i j) := by
    rw [← e1, ← e2]
    pointwise [b118, b114]
  have h2 : b113 t s (ix2 i j) = BitVec.ofNat 32 (i.val * 4 + n) := by
    pointwise [b107, b108, b109, b110, b111, b112, b113]
    rw [h]
    apply BitVec.eq_of_toNat_eq
    simp [IntOp.addi, IntOp.muli]
  rw [h1, h2, h, toInt_ofNat_of_lt (by omega), BitVec.toNat_ofNat, Nat.mod_eq_of_lt (by omega)]
  push_cast
  rfl

include ht in
/-- A pair's masked hidden state: the neighbour's where the pair is near, else zero. -/
theorem b115_apply (i j : Fin 512) (k : Fin 262144) (hk : k.val = i.val * 512 + j.val) (c : Fin 128) :
    b115 t s (ix2 k c) = if Spec.near (weights s).scene (posn t s) i j then hid s j c else 0 := by
  have hb : k.val / 512 < 512 := Nat.div_lt_of_lt_mul k.isLt
  have hb' : k.val % 512 < 512 := Nat.mod_lt _ (by decide)
  have e1 : (⟨k.val / 512, hb⟩ : Fin 512) = i := Fin.ext (by show k.val / 512 = i.val; omega)
  have e2 : (⟨k.val % 512, hb'⟩ : Fin 512) = j := Fin.ext (by show k.val % 512 = j.val; omega)
  have h : b115 t s (ix2 k c) = s.main_v10_15 (ix2 j c) * b76 t s (ix2 i j) := by
    rw [← e1, ← e2]
    pointwise [b102, b103, b104, b105, b106, b115]
  rw [h, b76_apply t ht s]
  split_ifs
  · rw [mul_one]; rfl
  · rw [mul_zero]

/-- Where an update lands: its row is the one its index names, its column its own. -/
theorem lands_iff (idx : IVec S262144x1 32) (k : Fin 262144) (c' : Fin 128) (q : Fin 2048) (c : Fin 128) :
    scatter_S2048x128_S262144x1_S262144x128_1_0_0_1.resultIdx? (ix2 k c') idx = some (ix2 q c)
      ↔ (idx (ix2 k 0)).toInt = q.val ∧ c' = c := by
  rw [Routing.resultIdx?_eq_some]
  have h0 : scatter_S2048x128_S262144x1_S262144x128_1_0_0_1.start (ix2 k c') idx 0 = (idx (ix2 k 0)).toInt := by
    unfold ScatterDims.start
    rw [dif_pos (by decide)]
    congr 2
    funext a
    match a with
    | ⟨0, _⟩ => rfl
    | ⟨1, _⟩ => rfl
  have h1 : scatter_S2048x128_S262144x1_S262144x128_1_0_0_1.start (ix2 k c') idx 1 = 0 := by
    unfold ScatterDims.start
    rw [dif_neg (by decide)]
  have w0 : scatter_S2048x128_S262144x1_S262144x128_1_0_0_1.window (ix2 k c') 0 = 0 := by
    unfold ScatterDims.window
    rw [dif_neg (by decide)]
  have w1 : scatter_S2048x128_S262144x1_S262144x128_1_0_0_1.window (ix2 k c') 1 = c'.val := by
    unfold ScatterDims.window
    rw [dif_pos (by decide)]
    rfl
  constructor
  · intro h
    have a := h 0
    have b := h 1
    rw [h0, w0] at a
    rw [h1, w1] at b
    refine ⟨by simpa using a, Fin.ext ?_⟩
    have b' : (0 : ℤ) + (c'.val : ℤ) = (c.val : ℤ) := b
    omega
  · rintro ⟨a, rfl⟩ b
    match b with
    | ⟨0, _⟩ =>
      show scatter_S2048x128_S262144x1_S262144x128_1_0_0_1.start (ix2 k c') idx 0 + (scatter_S2048x128_S262144x1_S262144x128_1_0_0_1.window (ix2 k c') 0 : ℤ) = (q.val : ℤ)
      rw [h0, w0, a]; simp
    | ⟨1, _⟩ =>
      show scatter_S2048x128_S262144x1_S262144x128_1_0_0_1.start (ix2 k c') idx 1 + (scatter_S2048x128_S262144x1_S262144x128_1_0_0_1.window (ix2 k c') 1 : ℤ) = (c'.val : ℤ)
      rw [h1, w1]; simp

include ht in
/-- The scattered sum at a row and a column. -/
theorem b119_apply (i : Fin 512) (g : ℕ) (hg : g < 4) (q : Fin 2048) (hq : q.val = i.val * 4 + g) (c : Fin 128) :
    b119 t s (ix2 q c) = Spec.pooled (weights s).scene (posn t s) (hid s) i g c := by
  have h0 : b119 t s (ix2 q c) = (b117 t s (ix2 q c) : EReal) + ∑ j ∈ Finset.univ.filter (fun j => scatter_S2048x128_S262144x1_S262144x128_1_0_0_1.resultIdx? j (b118 t s) = some (ix2 q c)), b115 t s j := rfl
  rw [h0]
  have hz : b117 t s (ix2 q c) = 0 := by pointwise [b117, b116]
  rw [hz, zero_add, Finset.sum_filter, sum_idx2]
  have h1 : ∀ k : Fin 262144, (∑ c' : Fin 128, if scatter_S2048x128_S262144x1_S262144x128_1_0_0_1.resultIdx? (ix2 k c') (b118 t s) = some (ix2 q c) then b115 t s (ix2 k c') else 0)
      = if (b118 t s (ix2 k 0)).toInt = q.val then b115 t s (ix2 k c) else 0 := by
    intro k
    rw [Finset.sum_eq_single c]
    · refine if_congr ((lands_iff _ _ _ _ _).trans ⟨fun h => h.1, fun h => ⟨h, rfl⟩⟩) rfl rfl
    · intro c' _ hc
      exact if_neg fun h => hc ((lands_iff _ _ _ _ _).1 h).2
    · simp
  rw [Finset.sum_congr rfl fun k _ => h1 k]
  have e := Equiv.sum_comp (finProdFinEquiv (m := 512) (n := 512)) (fun k : Fin 262144 => if (b118 t s (ix2 k 0)).toInt = q.val then b115 t s (ix2 k c) else 0)
  rw [← e, Fintype.sum_prod_type, Finset.sum_eq_single i]
  · unfold Spec.pooled
    refine Finset.sum_congr rfl fun j _ => ?_
    have hk : (finProdFinEquiv (m := 512) (n := 512) (i, j)).val = i.val * 512 + j.val := by
      show j.val + 512 * i.val = _; omega
    rw [b118_apply t s i j _ hk, b115_apply t ht s i j _ hk]
    by_cases hn : Spec.near (weights s).scene (posn t s) i j
    · have hle : Spec.cell (posn t s) i j ≤ 3 := by unfold Spec.cell; split_ifs <;> omega
      rw [b101_apply t ht s i j hn, if_pos hn, BitVec.toNat_ofNat, Nat.mod_eq_of_lt (by omega)]
      refine if_congr ⟨fun h => ⟨hn, by omega⟩, fun h => by have := h.2; omega⟩ rfl rfl
    · rw [if_neg hn, ite_self, if_neg (show ¬(Spec.near (weights s).scene (posn t s) i j ∧ Spec.cell (posn t s) i j = g) from fun h => hn h.1)]
  · intro i' _ hi
    refine Finset.sum_eq_zero fun j _ => if_neg ?_
    have hk : (finProdFinEquiv (m := 512) (n := 512) (i', j)).val = i'.val * 512 + j.val := by
      show j.val + 512 * i'.val = _; omega
    rw [b118_apply t s i' j _ hk]
    obtain ⟨n, hn, h⟩ := b101_lt t s i' j
    rw [h, BitVec.toNat_ofNat, Nat.mod_eq_of_lt (by omega)]
    intro hh
    exact hi (Fin.ext (by omega))
  · simp

/-! ## The cell update -/

include ht in
/-- The pooled sums, cell after cell. -/
theorem b129_apply (i x : Fin 512) :
    b129 t s (ix2 i x) = Spec.pooled (weights s).scene (posn t s) (hid s) i (x.val / 128) ⟨x.val % 128, Nat.mod_lt _ (by omega)⟩ := by
  rw [← b119_apply t ht s i (x.val / 128) (by omega) ⟨i.val * 4 + x.val / 128, by omega⟩ rfl]
  pointwise [b120, b129]

include ht in
/-- The embedding of the pooled sums, -/
theorem b137_apply (i : Fin 512) (e : Fin 64) : b137 t s (ix2 i e) = Spec.soc (weights s) (posn t s) (hid s) i e := by
  have h := b129_apply t ht s
  pointwise [b130, b131, b132, b133, b134, b135, b136, b137]
  simp only [h]
  rfl

include ht in
/-- and of the displacement. -/
theorem b128_apply (i : Fin 512) (e : Fin 64) : b128 t s (ix2 i e) = Spec.et (weights s) (disp t s) i e := by
  have h := b19_apply t ht s
  pointwise [b121, b122, b123, b124, b125, b126, b127, b128]
  simp only [h]
  rfl

include ht in
/-- The four gates before their activations. -/
theorem b149_apply (i q : Fin 512) : b149 t s (ix2 i q) = Spec.gates (weights s) (posn t s) (disp t s) (hid s) i q := by
  have h1 := b128_apply t ht s
  have h2 := b137_apply t ht s
  pointwise [b138, b139, b140, b141, b142, b143, b144, b145, b146, b147, b148, b149]
  simp only [h1, h2]
  rfl

include ht in
/-- The cell state after a step, -/
theorem b181_apply (i : Fin 512) (e : Fin 128) :
    b181 t s (ix2 i e) = Spec.newC (weights s) (posn t s) (disp t s) (hid s) (cel s) i e := by
  have h := b149_apply t ht s
  pointwise [b150, b151, b152, b153, b154, b155, b156, b157, b158, b159, b160, b161, b162, b163, b164, b165, b166, b167, b168, b169, b170, b179, b180, b181]
  simp only [h]
  rfl

include ht in
/-- and the hidden state. -/
theorem b183_apply (i : Fin 512) (e : Fin 128) :
    b183 t s (ix2 i e) = Spec.newH (weights s) (posn t s) (disp t s) (hid s) (cel s) i e := by
  have h := b149_apply t ht s
  have h' := b181_apply t ht s
  pointwise [b153, b171, b172, b173, b174, b175, b176, b177, b178, b182, b183]
  simp only [h, h']
  rfl

/-! ## The results' columns -/

/-- The column a step writes. -/
theorem column_eq (k : Fin 12) (ht : t < 20) :
    IntOp.cmpi .eq (BitVec.ofNat 32 k.val) (IntOp.subi (b1 t s ix0) 8#32) = BitVec.ofBool (decide (k.val + 8 = t)) := by
  rw [b1_eq t ht s]
  show BitVec.ofBool (BitVec.ofNat 32 k.val == BitVec.ofNat 32 t - 8#32) = _
  congr 1
  rw [Bool.eq_iff_iff, beq_iff_eq, decide_eq_true_iff]
  constructor
  · intro h
    have h' := congrArg (fun w => (w + 8#32).toNat) h
    simp only [BitVec.sub_add_cancel] at h'
    simp at h'
    omega
  · rintro rfl
    rw [BitVec.ofNat_add]
    exact (BitVec.add_sub_cancel _ _).symm

include ht in
/-- The outputs after a step: its own column is the output it predicts, if it is a predicted step. -/
theorem b193_apply (i : Fin 512) (k : Fin 12) (e : Fin 5) :
    b193 t s (ix3 i k e) = if k.val + 8 = t then Spec.out (weights s) (hid s) i e else s.main_v10_18 (ix3 i k e) := by
  have h := b6_apply t s
  have hc := column_eq t s k ht
  pointwise [b184, b185, b186, b187, b188, b189, b190, b191, b192, b193]
  rw [hc, bits_select, h]

include ht in
/-- The positions after a step, likewise. -/
theorem b197_apply (i : Fin 512) (k : Fin 12) (e : Fin 2) :
    b197 t s (ix3 i k e) = if k.val + 8 = t then posn t s i e else s.main_v10_19 (ix3 i k e) := by
  have h := b30_apply t ht s
  have hc := column_eq t s k ht
  pointwise [b184, b185, b186, b187, b188, b189, b194, b195, b196, b197]
  rw [hc, bits_select, h]

end Step

end Cert.Proof.ReferenceIdeal
-- ==== Proof.Sequence.lean ====
/-
  All twenty steps: the kernel's eight past and twelve predicted steps and the reference's twenty steps pass through the same
  states, so the kernel's two output blocks hold what the reference writes.
-/
module

public import proofs.«01_k».proof.Proof.KernelStep
public import proofs.«01_k».proof.Proof.RefStep

@[expose] public section

set_option maxRecDepth 16384

noncomputable section

open Classical

namespace Cert.Proof.Sequence

open Idealize.ShloMosaic
open Cert.KernelIdeal.Gen (k0_off1_eq k0_off2_eq k0_off3_eq k0_off4_eq)
open Cert.Proof.KernelIdeal (Ins Fits encSeq decSeq nextPos t1_trips t4_trips encStep_h encStep_c decStep_h decStep_c decStep_p out_apply pos'_apply)
open Cert.Proof.ReferenceIdeal (weights hid cel disp posn b183_apply b181_apply b30_apply b193_apply b197_apply)
open Cert.KernelIdeal (k0_t1_loop k0_t4_loop)

/-- The reference's states. -/
abbrev RState := Cert.ReferenceIdeal.Step.State Ideal

/-- The reference's state after `n` steps from `s`. -/
def iter (s : RState) : ℕ → RState
  | 0 => s
  | n + 1 => Cert.ReferenceIdeal.Step.step n (iter s n)

/-- The kernel's windows `I` hold what the reference's first state `s` holds, and no entry of the first hidden state is `+∞`. -/
structure Linked (I : Ins Ideal) (s : RState) : Prop where
  fits : Fits I.wts (weights s)
  w46 : ∀ x e, I.v46 (ix2 x e) = (weights s).wpred e x
  w49 : ∀ e, I.v49 (ix2 0 e) = (weights s).bpred e
  posT : ∀ t k i, I.x0 (ix3 t k i) = s.main_v10_4 (ix3 i t k)
  pos : ∀ t i k, I.x1 (ix3 t i k) = s.main_v10_4 (ix3 i t k)
  rel : ∀ t i k, I.x2 (ix3 t i k) = s.main_v10_3 (ix3 i t k)
  h0 : ∀ i e, I.init.1 (ix2 i e) = hid s i e
  c0 : ∀ i e, I.init.2 (ix2 i e) = cel s i e
  below : ∀ i e, hid s i e ≠ ⊤

/-! ## What a step of the reference keeps and changes -/

section Reference
variable (s : RState) (n : ℕ) (hn : n < 20)

/-- No step changes a weight, -/
theorem weights_iter : weights (iter s n) = weights s := by
  induction n with
  | zero => rfl
  | succ n ih => exact Eq.trans rfl ih

/-- the observed displacements -/
theorem rel_iter : (iter s n).main_v10_3 = s.main_v10_3 := by
  induction n with
  | zero => rfl
  | succ n ih => exact Eq.trans rfl ih

/-- or the observed positions. -/
theorem pos_iter : (iter s n).main_v10_4 = s.main_v10_4 := by
  induction n with
  | zero => rfl
  | succ n ih => exact Eq.trans rfl ih

include hn

/-- The hidden state after a step, -/
theorem hid_succ (i : Fin 512) (e : Fin 128) : hid (iter s (n + 1)) i e
    = Spec.newH (weights s) (posn n (iter s n)) (disp n (iter s n)) (hid (iter s n)) (cel (iter s n)) i e := by
  rw [← weights_iter s n]
  exact b183_apply n hn (iter s n) i e

/-- the cell state, -/
theorem cel_succ (i : Fin 512) (e : Fin 128) : cel (iter s (n + 1)) i e
    = Spec.newC (weights s) (posn n (iter s n)) (disp n (iter s n)) (hid (iter s n)) (cel (iter s n)) i e := by
  rw [← weights_iter s n]
  exact b181_apply n hn (iter s n) i e

/-- and the position. -/
theorem last_succ (i : Fin 512) (k : Fin 2) : (iter s (n + 1)).main_v10_17 (ix2 i k) = posn n (iter s n) i k :=
  b30_apply n hn (iter s n) i k

omit hn

/-- No entry of a hidden state is `+∞`. -/
theorem hid_ne_top (hs : ∀ i e, hid s i e ≠ ⊤) (hn : n ≤ 20) (i : Fin 512) (e : Fin 128) : hid (iter s n) i e ≠ ⊤ := by
  cases n with
  | zero => exact hs i e
  | succ n => rw [hid_succ s n (by omega)]; exact Spec.newH_ne_top _ _ _ _ _ i e

/-- Row `k` of the outputs is written by step `8 + k`, -/
theorem out_iter (i : Fin 512) (k : Fin 12) (e : Fin 5) (hk : 8 + k.val < n) (hn : n ≤ 20) :
    (iter s n).main_v10_18 (ix3 i k e) = Spec.out (weights s) (hid (iter s (8 + k.val))) i e := by
  induction n with
  | zero => omega
  | succ n ih =>
    have h := b193_apply n (by omega) (iter s n) i k e
    refine Eq.trans (b := Cert.ReferenceIdeal.Step.b193 n (iter s n) (ix3 i k e)) rfl (h.trans ?_)
    rw [weights_iter]
    by_cases hkn : k.val + 8 = n
    · rw [if_pos hkn, ← hkn, Nat.add_comm]
    · rw [if_neg hkn]; exact ih (by omega) (by omega)

/-- and so is row `k` of the positions. -/
theorem traj_iter (i : Fin 512) (k : Fin 12) (e : Fin 2) (hk : 8 + k.val < n) (hn : n ≤ 20) :
    (iter s n).main_v10_19 (ix3 i k e) = posn (8 + k.val) (iter s (8 + k.val)) i e := by
  induction n with
  | zero => omega
  | succ n ih =>
    have h := b197_apply n (by omega) (iter s n) i k e
    refine Eq.trans (b := Cert.ReferenceIdeal.Step.b197 n (iter s n) (ix3 i k e)) rfl (h.trans ?_)
    by_cases hkn : k.val + 8 = n
    · rw [if_pos hkn, ← hkn, Nat.add_comm]
    · rw [if_neg hkn]; exact ih (by omega) (by omega)

end Reference

/-! ## The kernel's steps pass through the reference's states -/

section Kernel
variable {I : Ins Ideal} {s : RState} (L : Linked I s)

include L

/-- After `n` past steps. -/
theorem enc_eq (n : ℕ) (hn : n ≤ 8) :
    (∀ i e, (I.enc n).1 (ix2 i e) = hid (iter s n) i e) ∧ ∀ i e, (I.enc n).2 (ix2 i e) = cel (iter s n) i e := by
  induction n with
  | zero => exact ⟨L.h0, L.c0⟩
  | succ n ih =>
    obtain ⟨ih1, ih2⟩ := ih (by omega)
    have h8 : n < 8 := by omega
    have hp : ∀ i k, View.ld I.x1 (Cert.Proof.KernelIdeal.rPos ⟨n, t1_trips ▸ h8⟩) (ix3 0 i k) = posn n (iter s n) i k := by
      intro i k
      rw [posn, dif_pos h8, pos_iter]
      refine Eq.trans ?_ (L.pos ⟨n, h8⟩ i k)
      refine congrArg I.x1 (funext fun a => Fin.ext ?_)
      show Cert.KernelIdeal.k0_off1 ⟨n, t1_trips ▸ h8⟩ a + 1 * (ix3 (0 : Fin 1) i k a).val = _
      rw [k0_off1_eq]
      fin_cases a <;> simp [ix3]
    have hq : ∀ k i, View.ld I.x0 (Cert.Proof.KernelIdeal.rPosT ⟨n, t1_trips ▸ h8⟩) (ix3 0 k i) = posn n (iter s n) i k := by
      intro k i
      rw [posn, dif_pos h8, pos_iter]
      refine Eq.trans ?_ (L.posT ⟨n, h8⟩ k i)
      refine congrArg I.x0 (funext fun a => Fin.ext ?_)
      show Cert.KernelIdeal.k0_off2 ⟨n, t1_trips ▸ h8⟩ a + 1 * (ix3 (0 : Fin 1) k i a).val = _
      rw [k0_off2_eq]
      fin_cases a <;> simp [ix3]
    have hr : ∀ i k, View.ld I.x2 (Cert.Proof.KernelIdeal.rPos ⟨n, t1_trips ▸ h8⟩) (ix3 0 i k) = disp n (iter s n) i k := by
      intro i k
      rw [disp, dif_pos h8, rel_iter]
      refine Eq.trans ?_ (L.rel ⟨n, h8⟩ i k)
      refine congrArg I.x2 (funext fun a => Fin.ext ?_)
      show Cert.KernelIdeal.k0_off1 ⟨n, t1_trips ▸ h8⟩ a + 1 * (ix3 (0 : Fin 1) i k a).val = _
      rw [k0_off1_eq]
      fin_cases a <;> simp [ix3]
    have hT := hid_ne_top s n L.below (by omega)
    have e : I.enc (n + 1) = Cert.Proof.KernelIdeal.encStep I.wts (View.ld I.x1 (Cert.Proof.KernelIdeal.rPos ⟨n, t1_trips ▸ h8⟩))
        (View.ld I.x0 (Cert.Proof.KernelIdeal.rPosT ⟨n, t1_trips ▸ h8⟩)) (View.ld I.x2 (Cert.Proof.KernelIdeal.rPos ⟨n, t1_trips ▸ h8⟩)) (I.enc n) := by
      show encSeq _ _ _ _ _ _ = _
      rw [encSeq, dif_pos (t1_trips ▸ h8)]
      rfl
    rw [e]
    refine ⟨fun i e => ?_, fun i e => ?_⟩
    · rw [hid_succ s n (by omega)]
      exact encStep_h L.fits ih1 ih2 hT hp hq hr i e
    · rw [cel_succ s n (by omega)]
      exact encStep_c L.fits ih1 ih2 hT hp hq hr i e

omit L in
/-- A predicted step's position is the last one moved. -/
theorem posn_dec (n : ℕ) : posn (8 + n) (iter s (8 + n)) = nextPos (weights s) (hid (iter s (8 + n))) (fun i k => (iter s (8 + n)).main_v10_17 (ix2 i k)) := by
  funext i k
  rw [posn, dif_neg (by omega), weights_iter]
  rfl

omit L in
/-- and its displacement is the predicted one. -/
theorem disp_dec (n : ℕ) : disp (8 + n) (iter s (8 + n)) = Spec.outRel (weights s) (hid (iter s (8 + n))) := by
  funext i k
  rw [disp, dif_neg (by omega), weights_iter]

/-- After `n` predicted steps. -/
theorem dec_eq (n : ℕ) (hn : n ≤ 12) :
    (∀ i e, (I.dec n).1 (ix2 i e) = hid (iter s (8 + n)) i e) ∧ (∀ i e, (I.dec n).2.1 (ix2 i e) = cel (iter s (8 + n)) i e)
      ∧ ∀ i k, (I.dec n).2.2 (ix2 i k) = (iter s (8 + n)).main_v10_17 (ix2 i k) := by
  induction n with
  | zero =>
    obtain ⟨h1, h2⟩ := enc_eq L 8 le_rfl
    refine ⟨fun i e => ?_, fun i e => ?_, fun i k => ?_⟩
    · rw [← h1]; show (I.enc k0_t1_loop.trips).1 _ = _; rw [t1_trips]
    · rw [← h2]; show (I.enc k0_t1_loop.trips).2 _ = _; rw [t1_trips]
    · rw [last_succ s 7 (by omega), posn, dif_pos (by omega), pos_iter]
      refine Eq.trans ?_ (L.pos ⟨7, by omega⟩ i k)
      show Cert.KernelIdeal.Gen.k0_pay7 (View.ld I.x1 (Rect.unit (s := Cert.KernelIdeal.S8x512x2) ![7, 0, 0] Cert.KernelIdeal.S1x512x2.size Cert.KernelIdeal.Gen.inb_S8x512x2_S1x512x2_7_0_0)) (ix2 i k) = _
      pointwise [Cert.KernelIdeal.Gen.k0_pay7]
  | succ n ih =>
    obtain ⟨h1, h2, h3⟩ := ih (by omega)
    have hT := hid_ne_top s (8 + n) L.below (by omega)
    refine ⟨fun i e => ?_, fun i e => ?_, fun i k => ?_⟩
    · rw [show 8 + (n + 1) = (8 + n) + 1 from rfl, hid_succ s (8 + n) (by omega), posn_dec, disp_dec]
      exact decStep_h L.fits L.w46 L.w49 h1 h2 h3 hT i e
    · rw [show 8 + (n + 1) = (8 + n) + 1 from rfl, cel_succ s (8 + n) (by omega), posn_dec, disp_dec]
      exact decStep_c L.fits L.w46 L.w49 h1 h2 h3 hT i e
    · rw [show 8 + (n + 1) = (8 + n) + 1 from rfl, last_succ s (8 + n) (by omega), posn_dec]
      exact decStep_p L.w46 L.w49 h1 h3 i k

/-! ## The output blocks -/

omit L in
/-- An index of a block of one row. -/
theorem idx_row {n k : ℕ} (x : (⟨3, ![1, n, k]⟩ : Shape).Idx) : x = ix3 (0 : Fin 1) (x 1) (x 2) := by
  funext a
  fin_cases a
  · exact Subsingleton.elim (α := Fin 1) _ _
  · rfl
  · rfl

/-- Row `n` of the outputs' block. -/
def outRow (s : RState) (y : Cert.KernelIdeal.S12x512x5.Idx) : EReal := Spec.out (weights s) (hid (iter s (8 + (y 0).val))) (y 1) (y 2)

/-- Row `n` of the positions' block. -/
def trajRow (s : RState) (y : Cert.KernelIdeal.S12x512x2.Idx) : EReal := posn (8 + (y 0).val) (iter s (8 + (y 0).val)) (y 1) (y 2)

/-- What the kernel stores in step `n` is row `n` of the outputs, -/
theorem outPcs_eq (n : ℕ) (hn : n ≤ 12) : ∀ p ∈ Cert.Proof.KernelIdeal.outPcs I.wts Cert.KernelIdeal.Gen.k0_pay50 I.v46 I.v49 I.init' n,
    ∀ x : p.1.shape.Idx, p.2 x = outRow s (p.1.emb x) := by
  induction n with
  | zero => intro p hp; exact absurd hp (by simp [Cert.Proof.KernelIdeal.outPcs])
  | succ n ih =>
    intro p hp
    have hn' : n < k0_t4_loop.trips := t4_trips ▸ hn
    rw [Cert.Proof.KernelIdeal.outPcs, dif_pos hn'] at hp
    rcases List.mem_cons.mp hp with rfl | hp
    · intro x
      obtain ⟨h1, h2, h3⟩ := dec_eq L n (by omega)
      have e : ∀ (i : Fin 512) (e : Fin 5), Cert.KernelIdeal.Gen.k0_pay31 (Cert.KernelIdeal.Gen.k0_pay5 I.v46) (Cert.KernelIdeal.Gen.k0_pay6 I.v49) (I.dec n).1 (ix3 0 i e)
          = outRow s ((Cert.Proof.KernelIdeal.rOut ⟨n, hn'⟩).emb (ix3 (0 : Fin 1) i e)) := by
        intro i e
        have ho := out_apply L.w46 L.w49 h1 i e
        have hi : (Cert.Proof.KernelIdeal.rOut ⟨n, hn'⟩).emb (ix3 (0 : Fin 1) i e) = ix3 (⟨n, hn⟩ : Fin 12) i e := by
          funext a
          refine Fin.ext ?_
          show Cert.KernelIdeal.k0_off3 ⟨n, hn'⟩ a + 1 * (ix3 (0 : Fin 1) i e a).val = _
          rw [k0_off3_eq]
          fin_cases a <;> simp [ix3]
        rw [hi]
        refine Eq.trans ?_ ho
        pointwise [Cert.KernelIdeal.Gen.k0_pay31]
      have hx := idx_row x
      rw [hx]
      exact e (x 1) (x 2)
    · exact ih (by omega) p hp

/-- and of the positions. -/
theorem trajPcs_eq (n : ℕ) (hn : n ≤ 12) : ∀ p ∈ Cert.Proof.KernelIdeal.trajPcs I.wts Cert.KernelIdeal.Gen.k0_pay50 I.v46 I.v49 I.init' n,
    ∀ x : p.1.shape.Idx, p.2 x = trajRow s (p.1.emb x) := by
  induction n with
  | zero => intro p hp; exact absurd hp (by simp [Cert.Proof.KernelIdeal.trajPcs])
  | succ n ih =>
    intro p hp
    have hn' : n < k0_t4_loop.trips := t4_trips ▸ hn
    rw [Cert.Proof.KernelIdeal.trajPcs, dif_pos hn'] at hp
    rcases List.mem_cons.mp hp with rfl | hp
    · intro x
      obtain ⟨h1, h2, h3⟩ := dec_eq L n (by omega)
      have e : ∀ (i : Fin 512) (e : Fin 2), Cert.KernelIdeal.Gen.k0_pay34 (Cert.KernelIdeal.Gen.k0_pay5 I.v46) (Cert.KernelIdeal.Gen.k0_pay6 I.v49) (I.dec n).1 (I.dec n).2.2 (ix3 0 i e)
          = trajRow s ((Cert.Proof.KernelIdeal.rTraj ⟨n, hn'⟩).emb (ix3 (0 : Fin 1) i e)) := by
        intro i e
        have ho := pos'_apply L.w46 L.w49 h1 h3 i e
        have hi : (Cert.Proof.KernelIdeal.rTraj ⟨n, hn'⟩).emb (ix3 (0 : Fin 1) i e) = ix3 (⟨n, hn⟩ : Fin 12) i e := by
          funext a
          refine Fin.ext ?_
          show Cert.KernelIdeal.k0_off4 ⟨n, hn'⟩ a + 1 * (ix3 (0 : Fin 1) i e a).val = _
          rw [k0_off4_eq]
          fin_cases a <;> simp [ix3]
        rw [hi]
        refine Eq.trans (Eq.trans ?_ ho) (congrFun (congrFun (posn_dec (s := s) n) i) e).symm
        pointwise [Cert.KernelIdeal.Gen.k0_pay34]
      have hx := idx_row x
      rw [hx]
      exact e (x 1) (x 2)
    · exact ih (by omega) p hp

/-- The outputs' block holds what the reference writes, -/
theorem out_eq (k : Fin 12) (i : Fin 512) (e : Fin 5) : I.out (ix3 k i e) = (iter s 20).main_v10_18 (ix3 i k e) := by
  rw [out_iter s 20 i k e (by omega) le_rfl]
  exact View.canon_apply_of_pieces (outRow s) _ (by
    have h := outPcs_eq L 12 le_rfl
    unfold Ins.outPcs
    rw [t4_trips]
    exact h) _ (Cert.Proof.KernelIdeal.outPcs_covered I _)

/-- and the positions' block too. -/
theorem traj_eq (k : Fin 12) (i : Fin 512) (e : Fin 2) : I.traj (ix3 k i e) = (iter s 20).main_v10_19 (ix3 i k e) := by
  rw [traj_iter s 20 i k e (by omega) le_rfl]
  exact View.canon_apply_of_pieces (trajRow s) _ (by
    have h := trajPcs_eq L 12 le_rfl
    unfold Ins.trajPcs
    rw [t4_trips]
    exact h) _ (Cert.Proof.KernelIdeal.trajPcs_covered I _)

end Kernel

end Cert.Proof.Sequence
-- ==== Proof.KernelIdealValue.lean ====
/-
  The two results of `KernelIdeal`'s run: the output windows' arrays after the one point, transposed; and the input windows'
  blocks as functions of the arguments.
-/
module

public import proofs.«01_k».proof.Proof.KernelIdealRun
public import Idealize.ShloMosaic.Lib.Pipeline.Value
public import Idealize.ShloMosaic.Lib.Pipeline.ValueKit.Geometry
public import Idealize.ShloMosaic.Lib.Pipeline.FrameSuffix
public import Idealize.ShloMosaic.Lib.StableHlo.Run

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.RA Idealize.SL.Sem
open Idealize.ShloMosaic.Rounds
open Idealize.ShloMosaic.Pipeline (Dat)

variable {F : FTy → Type} [FloatOps F]
variable (m : (ℓ : Loc nD τ sig) → Buf (Elt F) ℓ) (ρ : Dev nD → PrngReg)

/-! ## The blocks, which are whole arrays -/

/-- Window 0's block is its whole array. -/
theorem iblk_0 (c : Dev nD) (t : Fin cfg0.N) : iblk m c 0 t = V m c main_v0 :=
  funext fun y => congrArg (V m c main_v0) (funext fun a => Fin.ext (win0_0.rect_emb_val_of_index_zero t a rfl y))
/-- Window 1's block is its whole array. -/
theorem iblk_1 (c : Dev nD) (t : Fin cfg0.N) : iblk m c 1 t = V m c main_v1 :=
  funext fun y => congrArg (V m c main_v1) (funext fun a => Fin.ext (win0_1.rect_emb_val_of_index_zero t a rfl y))
/-- Window 2's block is its whole array. -/
theorem iblk_2 (c : Dev nD) (t : Fin cfg0.N) : iblk m c 2 t = V m c main_v2 :=
  funext fun y => congrArg (V m c main_v2) (funext fun a => Fin.ext (win0_2.rect_emb_val_of_index_zero t a rfl y))
/-- Window 3's block is its whole array. -/
theorem iblk_3 (c : Dev nD) (t : Fin cfg0.N) : iblk m c 3 t = V m c main_arg4 :=
  funext fun y => congrArg (V m c main_arg4) (funext fun a => Fin.ext (win0_3.rect_emb_val_of_index_zero t a rfl y))
/-- Window 4's block is its whole array. -/
theorem iblk_4 (c : Dev nD) (t : Fin cfg0.N) : iblk m c 4 t = V m c main_v3 :=
  funext fun y => congrArg (V m c main_v3) (funext fun a => Fin.ext (win0_4.rect_emb_val_of_index_zero t a rfl y))
/-- Window 5's block is its whole array. -/
theorem iblk_5 (c : Dev nD) (t : Fin cfg0.N) : iblk m c 5 t = V m c main_v4 :=
  funext fun y => congrArg (V m c main_v4) (funext fun a => Fin.ext (win0_5.rect_emb_val_of_index_zero t a rfl y))
/-- Window 6's block is its whole array. -/
theorem iblk_6 (c : Dev nD) (t : Fin cfg0.N) : iblk m c 6 t = V m c main_v5 :=
  funext fun y => congrArg (V m c main_v5) (funext fun a => Fin.ext (win0_6.rect_emb_val_of_index_zero t a rfl y))
/-- Window 7's block is its whole array. -/
theorem iblk_7 (c : Dev nD) (t : Fin cfg0.N) : iblk m c 7 t = V m c main_v6 :=
  funext fun y => congrArg (V m c main_v6) (funext fun a => Fin.ext (win0_7.rect_emb_val_of_index_zero t a rfl y))
/-- Window 8's block is its whole array. -/
theorem iblk_8 (c : Dev nD) (t : Fin cfg0.N) : iblk m c 8 t = V m c main_v7 :=
  funext fun y => congrArg (V m c main_v7) (funext fun a => Fin.ext (win0_8.rect_emb_val_of_index_zero t a rfl y))
/-- Window 9's block is its whole array. -/
theorem iblk_9 (c : Dev nD) (t : Fin cfg0.N) : iblk m c 9 t = V m c main_v8 :=
  funext fun y => congrArg (V m c main_v8) (funext fun a => Fin.ext (win0_9.rect_emb_val_of_index_zero t a rfl y))
/-- Window 10's block is its whole array. -/
theorem iblk_10 (c : Dev nD) (t : Fin cfg0.N) : iblk m c 10 t = V m c main_v9 :=
  funext fun y => congrArg (V m c main_v9) (funext fun a => Fin.ext (win0_10.rect_emb_val_of_index_zero t a rfl y))
/-- Window 11's block is its whole array. -/
theorem iblk_11 (c : Dev nD) (t : Fin cfg0.N) : iblk m c 11 t = V m c main_v11 :=
  funext fun y => congrArg (V m c main_v11) (funext fun a => Fin.ext (win0_11.rect_emb_val_of_index_zero t a rfl y))
/-- Window 12's block is its whole array. -/
theorem iblk_12 (c : Dev nD) (t : Fin cfg0.N) : iblk m c 12 t = V m c main_v12 :=
  funext fun y => congrArg (V m c main_v12) (funext fun a => Fin.ext (win0_12.rect_emb_val_of_index_zero t a rfl y))
/-- Window 13's block is its whole array. -/
theorem iblk_13 (c : Dev nD) (t : Fin cfg0.N) : iblk m c 13 t = V m c main_v13 :=
  funext fun y => congrArg (V m c main_v13) (funext fun a => Fin.ext (win0_13.rect_emb_val_of_index_zero t a rfl y))
/-- Window 14's block is its whole array. -/
theorem iblk_14 (c : Dev nD) (t : Fin cfg0.N) : iblk m c 14 t = V m c main_v14 :=
  funext fun y => congrArg (V m c main_v14) (funext fun a => Fin.ext (win0_14.rect_emb_val_of_index_zero t a rfl y))
/-- Window 15's block is its whole array. -/
theorem iblk_15 (c : Dev nD) (t : Fin cfg0.N) : iblk m c 15 t = V m c main_v15 :=
  funext fun y => congrArg (V m c main_v15) (funext fun a => Fin.ext (win0_15.rect_emb_val_of_index_zero t a rfl y))

/-! ## The output arrays after the run -/

/-- Output window 16's array ends as the body left the window. -/
theorem arr_16_of {c : Dev nD} (dat : Dat τ (Elt F) Unit ℕ (UR sig nD τ) ℕ cfg0 c) : dat.arrAt 16 cfg0.N = dat.after 16 t0_0 :=
  funext fun i => dat.arrAt_emb_eq_after_last 16 t0_0 (by decide +kernel) i

/-- Output window 16's array after the run. -/
theorem arr_16 (c : Dev nD) : (dats m 0 c).arrAt 16 cfg0.N = (ins m c t0_0).out :=
  (arr_16_of (dats m 0 c)).trans (after0_16 m c t0_0)

/-- Output window 17's array ends as the body left the window. -/
theorem arr_17_of {c : Dev nD} (dat : Dat τ (Elt F) Unit ℕ (UR sig nD τ) ℕ cfg0 c) : dat.arrAt 17 cfg0.N = dat.after 17 t0_0 :=
  funext fun i => dat.arrAt_emb_eq_after_last 17 t0_0 (by decide +kernel) i

/-- Output window 17's array after the run. -/
theorem arr_17 (c : Dev nD) : (dats m 0 c).arrAt 17 cfg0.N = (ins m c t0_0).traj :=
  (arr_17_of (dats m 0 c)).trans (after0_17 m c t0_0)

/-! ## What the operations before the region leave -/

/-- The array `main_v0` when the region is entered, from the arguments. -/
theorem V_v0 (c : Dev nD) : V m c main_v0 = transpose S8x2x512 [1, 2, 0] (m ((c : Thread nD τ).loc main_arg0)) transposes_S512x8x2_S8x2x512_1_2_0 := by
  show StableHlo.after (List.flatten [hostOps0]) _ (Proc.devRef .tc main_v0) = _
  simp only [List.flatten_cons, List.flatten_nil, List.append_nil]
  after_results

/-- The array `main_v1` when the region is entered, from the arguments. -/
theorem V_v1 (c : Dev nD) : V m c main_v1 = transpose S8x512x2 [1, 0, 2] (m ((c : Thread nD τ).loc main_arg0)) transposes_S512x8x2_S8x512x2_1_0_2 := by
  show StableHlo.after (List.flatten [hostOps0]) _ (Proc.devRef .tc main_v1) = _
  simp only [List.flatten_cons, List.flatten_nil, List.append_nil]
  after_results

/-- The array `main_v2` when the region is entered, from the arguments. -/
theorem V_v2 (c : Dev nD) : V m c main_v2 = transpose S8x512x2 [1, 0, 2] (m ((c : Thread nD τ).loc main_arg1)) transposes_S512x8x2_S8x512x2_1_0_2 := by
  show StableHlo.after (List.flatten [hostOps0]) _ (Proc.devRef .tc main_v2) = _
  simp only [List.flatten_cons, List.flatten_nil, List.append_nil]
  after_results

/-- The array `main_v3` when the region is entered, from the arguments. -/
theorem V_v3 (c : Dev nD) : V m c main_v3 = shapeCast S1x512 (m ((c : Thread nD τ).loc main_arg4)) shapeCasts_S512x1_S1x512 := by
  show StableHlo.after (List.flatten [hostOps0]) _ (Proc.devRef .tc main_v3) = _
  simp only [List.flatten_cons, List.flatten_nil, List.append_nil]
  after_results
  rfl

/-- The array `main_v4` when the region is entered, from the arguments. -/
theorem V_v4 (c : Dev nD) : V m c main_v4 = transpose S2x64 [1, 0] (m ((c : Thread nD τ).loc main_arg5)) transposes_S64x2_S2x64_1_0 := by
  show StableHlo.after (List.flatten [hostOps0]) _ (Proc.devRef .tc main_v4) = _
  simp only [List.flatten_cons, List.flatten_nil, List.append_nil]
  after_results

/-- The array `main_v5` when the region is entered, from the arguments. -/
theorem V_v5 (c : Dev nD) : V m c main_v5 = broadcastInDim S1x64 ![1] bcast_S64_S1x64_1 (m ((c : Thread nD τ).loc main_arg6)) := by
  show StableHlo.after (List.flatten [hostOps0]) _ (Proc.devRef .tc main_v5) = _
  simp only [List.flatten_cons, List.flatten_nil, List.append_nil]
  after_results

/-- The array `main_v6` when the region is entered, from the arguments. -/
theorem V_v6 (c : Dev nD) : V m c main_v6 = transpose S512x64 [1, 0] (m ((c : Thread nD τ).loc main_arg7)) transposes_S64x512_S512x64_1_0 := by
  show StableHlo.after (List.flatten [hostOps0]) _ (Proc.devRef .tc main_v6) = _
  simp only [List.flatten_cons, List.flatten_nil, List.append_nil]
  after_results

/-- The array `main_v7` when the region is entered, from the arguments. -/
theorem V_v7 (c : Dev nD) : V m c main_v7 = broadcastInDim S1x64 ![1] bcast_S64_S1x64_1 (m ((c : Thread nD τ).loc main_arg8)) := by
  show StableHlo.after (List.flatten [hostOps0]) _ (Proc.devRef .tc main_v7) = _
  simp only [List.flatten_cons, List.flatten_nil, List.append_nil]
  after_results

/-- The array `main_v8` when the region is entered, from the arguments. -/
theorem V_v8 (c : Dev nD) : V m c main_v8 = transpose S128x512 [1, 0] (m ((c : Thread nD τ).loc main_arg9)) transposes_S512x128_S128x512_1_0 := by
  show StableHlo.after (List.flatten [hostOps0]) _ (Proc.devRef .tc main_v8) = _
  simp only [List.flatten_cons, List.flatten_nil, List.append_nil]
  after_results

/-- The array `main_v9` when the region is entered, from the arguments. -/
theorem V_v9 (c : Dev nD) : V m c main_v9 = transpose S128x512 [1, 0] (m ((c : Thread nD τ).loc main_arg10)) transposes_S512x128_S128x512_1_0 := by
  show StableHlo.after (List.flatten [hostOps0]) _ (Proc.devRef .tc main_v9) = _
  simp only [List.flatten_cons, List.flatten_nil, List.append_nil]
  after_results

/-- The array `main_v11` when the region is entered, from the arguments. -/
theorem V_v11 (c : Dev nD) : V m c main_v11 = broadcastInDim S1x512 ![1] bcast_S512_S1x512_1 (addf (s := S512) (φ := .f32) (m ((c : Thread nD τ).loc main_arg11)) (m ((c : Thread nD τ).loc main_arg12))) := by
  show StableHlo.after (List.flatten [hostOps0]) _ (Proc.devRef .tc main_v11) = _
  simp only [List.flatten_cons, List.flatten_nil, List.append_nil]
  after_results

/-- The array `main_v12` when the region is entered, from the arguments. -/
theorem V_v12 (c : Dev nD) : V m c main_v12 = broadcastInDim S1x128 ![1] bcast_S128_S1x128_1 (m ((c : Thread nD τ).loc main_arg13)) := by
  show StableHlo.after (List.flatten [hostOps0]) _ (Proc.devRef .tc main_v12) = _
  simp only [List.flatten_cons, List.flatten_nil, List.append_nil]
  after_results

/-- The array `main_v13` when the region is entered, from the arguments. -/
theorem V_v13 (c : Dev nD) : V m c main_v13 = broadcastInDim S1x128 ![1] bcast_S128_S1x128_1 (m ((c : Thread nD τ).loc main_arg14)) := by
  show StableHlo.after (List.flatten [hostOps0]) _ (Proc.devRef .tc main_v13) = _
  simp only [List.flatten_cons, List.flatten_nil, List.append_nil]
  after_results

/-- The array `main_v14` when the region is entered, from the arguments. -/
theorem V_v14 (c : Dev nD) : V m c main_v14 = transpose S128x5 [1, 0] (m ((c : Thread nD τ).loc main_arg15)) transposes_S5x128_S128x5_1_0 := by
  show StableHlo.after (List.flatten [hostOps0]) _ (Proc.devRef .tc main_v14) = _
  simp only [List.flatten_cons, List.flatten_nil, List.append_nil]
  after_results

/-- The array `main_v15` when the region is entered, from the arguments. -/
theorem V_v15 (c : Dev nD) : V m c main_v15 = broadcastInDim S1x5 ![1] bcast_S5_S1x5_1 (m ((c : Thread nD τ).loc main_arg16)) := by
  show StableHlo.after (List.flatten [hostOps0]) _ (Proc.devRef .tc main_v15) = _
  simp only [List.flatten_cons, List.flatten_nil, List.append_nil]
  after_results

/-! ## What the operations after the region leave -/

/-- The first operation after the region transposes the outputs, -/
theorem after_v17 (U : Valuation τ sig (Elt F)) : StableHlo.after (List.flatten [hostOps1]) U (Proc.devRef .tc main_v17) = transpose S512x12x5 [1, 0, 2] (U (Proc.devRef .tc main_v16_0)) transposes_S12x512x5_S512x12x5_1_0_2 := by
  simp only [List.flatten_cons, List.flatten_nil, List.append_nil]
  after_results

/-- the second the positions. -/
theorem after_v18 (U : Valuation τ sig (Elt F)) : StableHlo.after (List.flatten [hostOps1]) U (Proc.devRef .tc main_v18) = transpose S512x12x2 [1, 0, 2] (U (Proc.devRef .tc main_v16_1)) transposes_S12x512x2_S512x12x2_1_0_2 := by
  simp only [List.flatten_cons, List.flatten_nil, List.append_nil]
  after_results

/-- The first result: the outputs' block, transposed. -/
theorem tail_v17 (c : Dev nD) : Pipeline.afterTail₀ cfgs (dats m) 0 (V0 m) [hostOps1] c main_v17
    = transpose S512x12x5 [1, 0, 2] (ins m c t0_0).out transposes_S12x512x5_S512x12x5_1_0_2 := by
  unfold Pipeline.afterTail₀
  rw [after_v17]
  refine congrArg (fun z => transpose S512x12x5 [1, 0, 2] z transposes_S12x512x5_S512x12x5_1_0_2) ?_
  exact (Pipeline.withArrays_arr (cfgs 0).spec launch0.win.arr_inj c (V0 m c) (fun w => (dats m 0 c).arrAt w cfg0.N) 16).trans (arr_16 m c)

/-- The second: the positions' block, transposed. -/
theorem tail_v18 (c : Dev nD) : Pipeline.afterTail₀ cfgs (dats m) 0 (V0 m) [hostOps1] c main_v18
    = transpose S512x12x2 [1, 0, 2] (ins m c t0_0).traj transposes_S12x512x2_S512x12x2_1_0_2 := by
  unfold Pipeline.afterTail₀
  rw [after_v18]
  refine congrArg (fun z => transpose S512x12x2 [1, 0, 2] z transposes_S12x512x2_S512x12x2_1_0_2) ?_
  exact (Pipeline.withArrays_arr (cfgs 0).spec launch0.win.arr_inj c (V0 m c) (fun w => (dats m 0 c).arrAt w cfg0.N) 17).trans (arr_17 m c)

/-- The run leaves the two results there. -/
theorem results : θ_run defs (onTc (τ := τ) (main (F := F))) ⟨m, fun _ => 0, ρ⟩ (fun r => ∀ c : Dev nD,
      r.2.mem ((c.tc : Thread nD τ).loc main_v17) = transpose S512x12x5 [1, 0, 2] (ins m c t0_0).out transposes_S12x512x5_S512x12x5_1_0_2
      ∧ r.2.mem ((c.tc : Thread nD τ).loc main_v18) = transpose S512x12x2 [1, 0, 2] (ins m c t0_0).traj transposes_S12x512x2_S512x12x2_1_0_2) :=
  (θ_run defs _ _).mono (fun _ h c => ⟨((h c).2 main_v17 (Pipeline.mem_restRefs_of main_v17 (by decide) (by decide))).trans (tail_v17 m c),
    ((h c).2 main_v18 (Pipeline.mem_restRefs_of main_v18 (by decide) (by decide))).trans (tail_v18 m c)⟩) (run_main m ρ)

end Cert.Proof.KernelIdeal
-- ==== Proof.Agree.lean ====
/-
  On the same arguments, with no entry of the first hidden state `+∞`, the kernel's windows hold what the reference starts from,
  so both programs end with the same two results.
-/
module

public import proofs.«01_k».proof.Defs
public import proofs.«01_k».proof.Proof.Sequence
public import proofs.«01_k».proof.Proof.KernelIdealValue
public import proofs.«01_k».proof.Proof.Gen.ReferenceIdeal.StepRun

@[expose] public section

set_option maxRecDepth 16384

noncomputable section

open Classical

namespace Cert.Proof.Agree

open Idealize.ShloMosaic
open Cert.KernelIdeal Cert.KernelIdeal.Gen
open Cert.Proof.KernelIdeal (Ins Fits Wts)
open Cert.Proof.ReferenceIdeal (weights hid cel)
open Cert.Proof.Sequence (Linked RState iter)

/-- Two agents' numbers are equal just when the agents are. -/
theorem number_ne (i j : Fin 512) : IntOp.cmpi .ne (BitVec.ofNat 32 i.val) (BitVec.ofNat 32 j.val) = BitVec.ofBool (decide (i ≠ j)) := by
  have h : (BitVec.ofNat 32 i.val = BitVec.ofNat 32 j.val) ↔ i = j := by
    constructor
    · intro h
      have := congrArg BitVec.toNat h
      simp only [BitVec.toNat_ofNat] at this
      exact Fin.ext (by omega)
    · rintro rfl; rfl
  by_cases e : i = j
  · subst e; simp [IntOp.cmpi]
  · have hb : (BitVec.ofNat 32 i.val != BitVec.ofNat 32 j.val) = true := bne_iff_ne.mpr fun hh => e (h.mp hh)
    simp [IntOp.cmpi, e, hb]

section Arrays
variable (a0 a1 : FVec Ideal S512x8x2 .f32) (a4 : IVec S512x1 32) (a5 : FVec Ideal S64x2 .f32) (a6 : FVec Ideal S64 .f32)
  (a7 : FVec Ideal S64x512 .f32) (a8 : FVec Ideal S64 .f32) (a9 a10 : FVec Ideal S512x128 .f32) (a11 a12 : FVec Ideal S512 .f32)
  (a13 a14 : FVec Ideal S128 .f32) (a15 : FVec Ideal S5x128 .f32) (a16 : FVec Ideal S5 .f32)

/-- The kernel's windows on these arguments. -/
def windows : Ins Ideal where
  x0 := transpose S8x2x512 [1, 2, 0] a0 transposes_S512x8x2_S8x2x512_1_2_0
  x1 := transpose S8x512x2 [1, 0, 2] a0 transposes_S512x8x2_S8x512x2_1_0_2
  x2 := transpose S8x512x2 [1, 0, 2] a1 transposes_S512x8x2_S8x512x2_1_0_2
  x3 := a4
  x4 := shapeCast S1x512 a4 shapeCasts_S512x1_S1x512
  x5 := transpose S2x64 [1, 0] a5 transposes_S64x2_S2x64_1_0
  x6 := broadcastInDim S1x64 ![1] bcast_S64_S1x64_1 a6
  x7 := transpose S512x64 [1, 0] a7 transposes_S64x512_S512x64_1_0
  x8 := broadcastInDim S1x64 ![1] bcast_S64_S1x64_1 a8
  x9 := transpose S128x512 [1, 0] a9 transposes_S512x128_S128x512_1_0
  x10 := transpose S128x512 [1, 0] a10 transposes_S512x128_S128x512_1_0
  x11 := broadcastInDim S1x512 ![1] bcast_S512_S1x512_1 (addf (s := S512) (φ := .f32) a11 a12)
  x12 := broadcastInDim S1x128 ![1] bcast_S128_S1x128_1 a13
  x13 := broadcastInDim S1x128 ![1] bcast_S128_S1x128_1 a14
  x14 := transpose S128x5 [1, 0] a15 transposes_S5x128_S128x5_1_0
  x15 := broadcastInDim S1x5 ![1] bcast_S5_S1x5_1 a16

/-- The reference's first state on these arguments. -/
abbrev start : RState := Cert.ReferenceIdeal.Step.init a15 a16 a1 a0 a5 a6 a7 a8 a9 a11 a10 a12 a4 a13 a14

/-- The table of neighbours: same scene, and another agent. -/
theorem table_apply (i j : Fin 512) : k0_pay52 (F := Ideal) (View.ld a4 (Rect.unit (s := S512x1) ![0, 0] S512x1.size inb_S512x1_S512x1_0_0))
      (View.ld (shapeCast S1x512 a4 shapeCasts_S512x1_S1x512) (Rect.unit (s := S1x512) ![0, 0] S1x512.size inb_S1x512_S1x512_0_0)) (ix2 i j)
    = BitVec.ofBool (decide (a4 (ix2 i 0) = a4 (ix2 j 0) ∧ i ≠ j)) := by
  pointwise [k0_pay52, k0_pay49]
  rw [number_ne]
  have hb : (a4 (ix2 i 0) == a4 (ix2 j 0)) = decide (a4 (ix2 i 0) = a4 (ix2 j 0)) := by
    by_cases e : a4 (ix2 i 0) = a4 (ix2 j 0)
    · simp [e]
    · rw [decide_eq_false e]; exact beq_eq_false_iff_ne.mpr e
  by_cases h1 : a4 (ix2 i 0) = a4 (ix2 j 0) <;> by_cases h2 : i = j <;> simp [IntOp.cmpi, IntOp.andi, hb, h1, h2]

/-- The reference's scene of an agent. -/
theorem scene_apply (i : Fin 512) : (weights (start a0 a1 a4 a5 a6 a7 a8 a9 a10 a11 a12 a13 a14 a15 a16)).scene i = a4 (ix2 i 0) := by
  show Cert.ReferenceIdeal.Step.A_main_v0 (F := Ideal) a0 a4 a13 a14 (ix1 i) = _
  pointwise [Cert.ReferenceIdeal.Step.A_main_v0]

/-- What the kernel reads once is the reference's weights. -/
theorem fits : Fits (windows a0 a1 a4 a5 a6 a7 a8 a9 a10 a11 a12 a13 a14 a15 a16).wts (weights (start a0 a1 a4 a5 a6 a7 a8 a9 a10 a11 a12 a13 a14 a15 a16)) where
  v10 := rfl
  v17 i j := by
    rw [scene_apply, scene_apply]
    exact table_apply a4 i j
  v20 x e := by
    show k0_pay53 (F := Ideal) (View.ld (transpose S2x64 [1, 0] a5 transposes_S64x2_S2x64_1_0) (Rect.unit (s := S2x64) ![0, 0] S2x64.size inb_S2x64_S2x64_0_0)) (ix2 x e) = a5 (ix2 e x)
    pointwise [k0_pay53]
  v22 e := by
    show k0_pay54 (F := Ideal) (View.ld (broadcastInDim S1x64 ![1] bcast_S64_S1x64_1 a6) (Rect.unit (s := S1x64) ![0, 0] S1x64.size inb_S1x64_S1x64_0_0)) (ix2 0 e) = a6 (ix1 e)
    pointwise [k0_pay54]
  v25 x e := by
    show k0_pay55 (F := Ideal) (View.ld (transpose S512x64 [1, 0] a7 transposes_S64x512_S512x64_1_0) (Rect.unit (s := S512x64) ![0, 0] S512x64.size inb_S512x64_S512x64_0_0)) (ix2 x e) = a7 (ix2 e x)
    pointwise [k0_pay55]
  v27 e := by
    show k0_pay56 (F := Ideal) (View.ld (broadcastInDim S1x64 ![1] bcast_S64_S1x64_1 a8) (Rect.unit (s := S1x64) ![0, 0] S1x64.size inb_S1x64_S1x64_0_0)) (ix2 0 e) = a8 (ix1 e)
    pointwise [k0_pay56]
  v30 x e := by
    show k0_pay57 (F := Ideal) (View.ld (transpose S128x512 [1, 0] a9 transposes_S512x128_S128x512_1_0) (Rect.unit (s := S128x512) ![0, 0] S128x512.size inb_S128x512_S128x512_0_0)) (ix2 x e) = a9 (ix2 e x)
    pointwise [k0_pay57]
  v33 x e := by
    show k0_pay58 (F := Ideal) (View.ld (transpose S128x512 [1, 0] a10 transposes_S512x128_S128x512_1_0) (Rect.unit (s := S128x512) ![0, 0] S128x512.size inb_S128x512_S128x512_0_0)) (ix2 x e) = a10 (ix2 e x)
    pointwise [k0_pay58]
  v35 e := by
    show k0_pay59 (F := Ideal) (View.ld (broadcastInDim S1x512 ![1] bcast_S512_S1x512_1 (addf (s := S512) (φ := .f32) a11 a12)) (Rect.unit (s := S1x512) ![0, 0] S1x512.size inb_S1x512_S1x512_0_0)) (ix2 0 e) = a11 (ix1 e) + a12 (ix1 e)
    pointwise [k0_pay59]

/-- Every agent starts from the given hidden state, -/
theorem hid_apply (i : Fin 512) (e : Fin 128) : hid (start a0 a1 a4 a5 a6 a7 a8 a9 a10 a11 a12 a13 a14 a15 a16) i e = a13 (ix1 e) := by
  show Cert.ReferenceIdeal.Step.A_main_v2 (F := Ideal) a0 a4 a13 a14 (ix2 i e) = _
  pointwise [Cert.ReferenceIdeal.Step.A_main_v2, Cert.ReferenceIdeal.Step.A_main_v1]

/-- and from the given cell state. -/
theorem cel_apply (i : Fin 512) (e : Fin 128) : cel (start a0 a1 a4 a5 a6 a7 a8 a9 a10 a11 a12 a13 a14 a15 a16) i e = a14 (ix1 e) := by
  show Cert.ReferenceIdeal.Step.A_main_v4 (F := Ideal) a0 a4 a13 a14 (ix2 i e) = _
  pointwise [Cert.ReferenceIdeal.Step.A_main_v4, Cert.ReferenceIdeal.Step.A_main_v3]

/-- The two programs start from the same contents. -/
theorem linked (h : ∀ e, a13 (ix1 e) ≠ ⊤) : Linked (windows a0 a1 a4 a5 a6 a7 a8 a9 a10 a11 a12 a13 a14 a15 a16) (start a0 a1 a4 a5 a6 a7 a8 a9 a10 a11 a12 a13 a14 a15 a16) where
  fits := fits a0 a1 a4 a5 a6 a7 a8 a9 a10 a11 a12 a13 a14 a15 a16
  w46 x e := by
    show View.ld (Val := Elt Ideal) (e' := .f32) (transpose S128x5 [1, 0] a15 transposes_S5x128_S128x5_1_0) (Rect.unit (s := S128x5) ![0, 0] S128x5.size inb_S128x5_S128x5_0_0) (ix2 x e) = a15 (ix2 e x)
    pointwise []
  w49 e := by
    show View.ld (Val := Elt Ideal) (e' := .f32) (broadcastInDim S1x5 ![1] bcast_S5_S1x5_1 a16) (Rect.unit (s := S1x5) ![0, 0] S1x5.size inb_S1x5_S1x5_0_0) (ix2 0 e) = a16 (ix1 e)
    pointwise []
  posT t k i := by
    show transpose S8x2x512 [1, 2, 0] a0 transposes_S512x8x2_S8x2x512_1_2_0 (ix3 t k i) = a0 (ix3 i t k)
    pointwise []
  pos t i k := by
    show transpose S8x512x2 [1, 0, 2] a0 transposes_S512x8x2_S8x512x2_1_0_2 (ix3 t i k) = a0 (ix3 i t k)
    pointwise []
  rel t i k := by
    show transpose S8x512x2 [1, 0, 2] a1 transposes_S512x8x2_S8x512x2_1_0_2 (ix3 t i k) = a1 (ix3 i t k)
    pointwise []
  h0 i e := by
    rw [hid_apply]
    show k0_pay1 (F := Ideal) (View.ld (broadcastInDim S1x128 ![1] bcast_S128_S1x128_1 a13) (Rect.unit (s := S1x128) ![0, 0] S1x128.size inb_S1x128_S1x128_0_0)) (ix2 i e) = a13 (ix1 e)
    pointwise [k0_pay1]
  c0 i e := by
    rw [cel_apply]
    show k0_pay2 (F := Ideal) (View.ld (broadcastInDim S1x128 ![1] bcast_S128_S1x128_1 a14) (Rect.unit (s := S1x128) ![0, 0] S1x128.size inb_S1x128_S1x128_0_0)) (ix2 i e) = a14 (ix1 e)
    pointwise [k0_pay2]
  below i e := by rw [hid_apply]; exact h e

/-- The first result, on the same arguments: the kernel's outputs, transposed, are the reference's. -/
theorem out_agree (h : ∀ e, a13 (ix1 e) ≠ ⊤) :
    (iter (start a0 a1 a4 a5 a6 a7 a8 a9 a10 a11 a12 a13 a14 a15 a16) 20).main_v10_18
      = transpose S512x12x5 [1, 0, 2] (windows a0 a1 a4 a5 a6 a7 a8 a9 a10 a11 a12 a13 a14 a15 a16).out transposes_S12x512x5_S512x12x5_1_0_2 := by
  have key := Cert.Proof.Sequence.out_eq (linked a0 a1 a4 a5 a6 a7 a8 a9 a10 a11 a12 a13 a14 a15 a16 h)
  generalize (windows a0 a1 a4 a5 a6 a7 a8 a9 a10 a11 a12 a13 a14 a15 a16).out = o at key ⊢
  funext y
  have hy : y = ix3 (y 0 : Fin 512) (y 1 : Fin 12) (y 2 : Fin 5) := by funext a; fin_cases a <;> rfl
  rw [hy]
  generalize (y 0 : Fin 512) = i, (y 1 : Fin 12) = k, (y 2 : Fin 5) = e
  refine (key k i e).symm.trans ?_
  pointwise []

/-- The second result: the positions. -/
theorem traj_agree (h : ∀ e, a13 (ix1 e) ≠ ⊤) :
    (iter (start a0 a1 a4 a5 a6 a7 a8 a9 a10 a11 a12 a13 a14 a15 a16) 20).main_v10_19
      = transpose S512x12x2 [1, 0, 2] (windows a0 a1 a4 a5 a6 a7 a8 a9 a10 a11 a12 a13 a14 a15 a16).traj transposes_S12x512x2_S512x12x2_1_0_2 := by
  have key := Cert.Proof.Sequence.traj_eq (linked a0 a1 a4 a5 a6 a7 a8 a9 a10 a11 a12 a13 a14 a15 a16 h)
  generalize (windows a0 a1 a4 a5 a6 a7 a8 a9 a10 a11 a12 a13 a14 a15 a16).traj = o at key ⊢
  funext y
  have hy : y = ix3 (y 0 : Fin 512) (y 1 : Fin 12) (y 2 : Fin 2) := by funext a; fin_cases a <;> rfl
  rw [hy]
  generalize (y 0 : Fin 512) = i, (y 1 : Fin 12) = k, (y 2 : Fin 2) = e
  refine (key k i e).symm.trans ?_
  pointwise []

end Arrays

/-! ## The precondition -/

/-- What the precondition's function takes for granted. -/
theorem preFacts : Cert.Pre_h0_below_inf.Facts := ⟨by decide⟩

/-- The constant the precondition compares with. -/
theorem inf_value : Ideal.ofBits .f32 0x7F800000#32 = (⊤ : EReal) := by
  simp [Ideal.ofBits, Ideal.ieee]

/-- Under the precondition no entry of the first hidden state is `+∞`. -/
theorem below (m : (ℓ : Loc nD τ sig) → Buf (Elt Ideal) ℓ) (h : Cert.Pre_KernelIdeal_h0_below_inf (hPre_h0_below_inf := preFacts) m) (c : Dev nD) (e : Fin 128) :
    m ((c.tc : Thread nD τ).loc main_arg13) (ix1 e) ≠ (⊤ : EReal) := by
  have he := congrFun (h c) (ix1 e)
  intro ht
  change (m ((c.tc : Thread nD τ).loc main_arg13)) (ix1 e) = (⊤ : EReal) at ht
  generalize m ((c.tc : Thread nD τ).loc main_arg13) = a at he ht
  revert he
  unfold Cert.Pre_h0_below_inf.fn
  show ¬ (cmpf (F := Ideal) .olt a _ (ix1 e) = 1#1)
  pointwise []
  rw [ht]
  simp [inf_value]

/-! ## The windows of the run -/

/-- What the run's windows hold is `windows` of the arguments. -/
theorem ins_eq (m : (ℓ : Loc nD τ sig) → Buf (Elt Ideal) ℓ) (c : Dev nD) (t : Fin cfg0.N) : Cert.Proof.KernelIdeal.ins m c t
    = windows (m ((c.tc : Thread nD τ).loc main_arg0)) (m ((c.tc : Thread nD τ).loc main_arg1)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) (m ((c.tc : Thread nD τ).loc main_arg12)) (m ((c.tc : Thread nD τ).loc main_arg13))
        (m ((c.tc : Thread nD τ).loc main_arg14)) (m ((c.tc : Thread nD τ).loc main_arg15)) (m ((c.tc : Thread nD τ).loc main_arg16)) := by
  unfold Cert.Proof.KernelIdeal.ins windows
  rw [Ins.mk.injEq]
  exact ⟨(Cert.Proof.KernelIdeal.iblk_0 m c t).trans (Cert.Proof.KernelIdeal.V_v0 m c), (Cert.Proof.KernelIdeal.iblk_1 m c t).trans (Cert.Proof.KernelIdeal.V_v1 m c),
    (Cert.Proof.KernelIdeal.iblk_2 m c t).trans (Cert.Proof.KernelIdeal.V_v2 m c), (Cert.Proof.KernelIdeal.iblk_3 m c t).trans (V_main_arg4 m c),
    (Cert.Proof.KernelIdeal.iblk_4 m c t).trans (Cert.Proof.KernelIdeal.V_v3 m c), (Cert.Proof.KernelIdeal.iblk_5 m c t).trans (Cert.Proof.KernelIdeal.V_v4 m c),
    (Cert.Proof.KernelIdeal.iblk_6 m c t).trans (Cert.Proof.KernelIdeal.V_v5 m c), (Cert.Proof.KernelIdeal.iblk_7 m c t).trans (Cert.Proof.KernelIdeal.V_v6 m c),
    (Cert.Proof.KernelIdeal.iblk_8 m c t).trans (Cert.Proof.KernelIdeal.V_v7 m c), (Cert.Proof.KernelIdeal.iblk_9 m c t).trans (Cert.Proof.KernelIdeal.V_v8 m c),
    (Cert.Proof.KernelIdeal.iblk_10 m c t).trans (Cert.Proof.KernelIdeal.V_v9 m c), (Cert.Proof.KernelIdeal.iblk_11 m c t).trans (Cert.Proof.KernelIdeal.V_v11 m c),
    (Cert.Proof.KernelIdeal.iblk_12 m c t).trans (Cert.Proof.KernelIdeal.V_v12 m c), (Cert.Proof.KernelIdeal.iblk_13 m c t).trans (Cert.Proof.KernelIdeal.V_v13 m c),
    (Cert.Proof.KernelIdeal.iblk_14 m c t).trans (Cert.Proof.KernelIdeal.V_v14 m c), (Cert.Proof.KernelIdeal.iblk_15 m c t).trans (Cert.Proof.KernelIdeal.V_v15 m c)⟩

/-! ## The claim -/

open Idealize.SL.Sem in
/-- The kernel and the reference, on the same arguments, end with the same two results. -/
theorem algebraic : Cert.algebraic_KernelIdeal_ReferenceIdeal_pre_h0_below_inf (hKernelIdeal := Cert.KernelIdeal.Gen.facts)
    (hReferenceIdeal := Cert.ReferenceIdeal.Gen.facts) (hPre_h0_below_inf := preFacts) := by
  intro m g m' g' hpre hargs
  refine ⟨fun c => transpose S512x12x5 [1, 0, 2] (Cert.Proof.KernelIdeal.ins m c t0_0).out transposes_S12x512x5_S512x12x5_1_0_2,
    fun c => transpose S512x12x2 [1, 0, 2] (Cert.Proof.KernelIdeal.ins m c t0_0).traj transposes_S12x512x2_S512x12x2_1_0_2, ?_, ?_⟩
  · exact (θ_run _ _ _).mono (fun r h c => ⟨(h.1 c).1, (h.1 c).2, h.2.1 c⟩)
      (θ_run_and (Cert.Proof.KernelIdeal.results m g) (Cert.Proof.KernelIdeal.frame m g))
  · refine (θ_run _ _ _).mono (fun r h c => ?_)
      (Cert.ReferenceIdeal.StepRun.run_iter m' g' (fun c => iter (Cert.ReferenceIdeal.StepRun.initState m' c)) (fun _ => rfl) (fun _ _ => rfl))
    obtain ⟨e0, e1, hr⟩ := h c
    have hb := below m hpre c
    obtain ⟨h0, h1, h2, h3, h4, h5, h6, h7, h8, h9, h10, h11, h12, h13, h14, h15, h16⟩ := hargs c
    have es : Cert.ReferenceIdeal.StepRun.initState m' c = start (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
      dsimp only [Cert.ReferenceIdeal.StepRun.initState, start]
      rw [h0, h1, h4, h5, h6, h7, h8, h9, h10, h11, h12, h13, h14, h15, h16]
    have ei := ins_eq m c t0_0
    refine ⟨e0.trans ?_, e1.trans ?_, hr⟩
    · exact (congrArg (fun s : RState => (iter s 20).main_v10_18) es).trans ((out_agree _ _ _ _ _ _ _ _ _ _ _ _ _ _ _ hb).trans
        (congrArg (fun I : Ins Ideal => transpose S512x12x5 [1, 0, 2] I.out transposes_S12x512x5_S512x12x5_1_0_2) ei.symm))
    · exact (congrArg (fun s : RState => (iter s 20).main_v10_19) es).trans ((traj_agree _ _ _ _ _ _ _ _ _ _ _ _ _ _ _ hb).trans
        (congrArg (fun I : Ins Ideal => transpose S512x12x2 [1, 0, 2] I.traj transposes_S12x512x2_S512x12x2_1_0_2) ei.symm))

end Cert.Proof.Agree
-- ==== Proof.lean ====
/-
  The proof of `Cert.Claim`: the frames, the idealization, which rewrote nothing, and that the kernel and the reference end with
  the same results.
-/
module

public import proofs.«01_k».proof.Defs
public import proofs.«01_k».proof.Proof.KernelRun
public import proofs.«01_k».proof.Proof.KernelIdealRun
public import proofs.«01_k».proof.Proof.ReferenceFrame
public import proofs.«01_k».proof.Proof.Agree

@[expose] public section

noncomputable section

namespace Cert.Proof

open Idealize.ShloMosaic Idealize.SL.Sem

/-- The claim. -/
theorem claim : Cert.Claim := ⟨Cert.Kernel.Gen.facts, Cert.KernelIdeal.Gen.facts, Cert.ReferenceIdeal.Gen.facts, Agree.preFacts,
  fun m ρ _ => Kernel.frame (F := Bits) m ρ, fun m ρ _ => KernelIdeal.frame (F := Ideal) m ρ, fun m ρ _ => KernelIdeal.frame (F := Ideal) m ρ,
  ReferenceIdeal.frame, fun m ρ _ => ReferenceIdeal.frame m ρ trivial, trivial, Agree.algebraic⟩

end Cert.Proof

end
